-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)) (v4 : (c : Dev Cert.Kernel2Ideal.nD) → Buf (Elt Ideal) ((c.tc : Thread Cert.Kernel2Ideal.nD Cert.Kernel2Ideal.τ).loc Cert.Kernel2Ideal.main_v29_4)) (v5 : (c : Dev Cert.Kernel2Ideal.nD) → Buf (Elt Ideal) ((c.tc : Thread Cert.Kernel2Ideal.nD Cert.Kernel2Ideal.τ).loc Cert.Kernel2Ideal.main_v29_5)) (v6 : (c : Dev Cert.Kernel2Ideal.nD) → Buf (Elt Ideal) ((c.tc : Thread Cert.Kernel2Ideal.nD Cert.Kernel2Ideal.τ).loc Cert.Kernel2Ideal.main_v29_6)) (v7 : (c : Dev Cert.Kernel2Ideal.nD) → Buf (Elt Ideal) ((c.tc : Thread Cert.Kernel2Ideal.nD Cert.Kernel2Ideal.τ).loc Cert.Kernel2Ideal.main_v29_7)) (v8 : (c : Dev Cert.Kernel2Ideal.nD) → Buf (Elt Ideal) ((c.tc : Thread Cert.Kernel2Ideal.nD Cert.Kernel2Ideal.τ).loc Cert.Kernel2Ideal.main_v29_8)) (v9 : (c : Dev Cert.Kernel2Ideal.nD) → Buf (Elt Ideal) ((c.tc : Thread Cert.Kernel2Ideal.nD Cert.Kernel2Ideal.τ).loc Cert.Kernel2Ideal.main_v29_9)) (v10 : (c : Dev Cert.Kernel2Ideal.nD) → Buf (Elt Ideal) ((c.tc : Thread Cert.Kernel2Ideal.nD Cert.Kernel2Ideal.τ).loc Cert.Kernel2Ideal.main_v29_10)) (v11 : (c : Dev Cert.Kernel2Ideal.nD) → Buf (Elt Ideal) ((c.tc : Thread Cert.Kernel2Ideal.nD Cert.Kernel2Ideal.τ).loc Cert.Kernel2Ideal.main_v29_11)) (v12 : (c : Dev Cert.Kernel2Ideal.nD) → Buf (Elt Ideal) ((c.tc : Thread Cert.Kernel2Ideal.nD Cert.Kernel2Ideal.τ).loc Cert.Kernel2Ideal.main_v29_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_v29_4) = v4 c
          ∧ r.2.mem ((c.tc : Thread Cert.Kernel2Ideal.nD Cert.Kernel2Ideal.τ).loc Cert.Kernel2Ideal.main_v29_5) = v5 c
          ∧ r.2.mem ((c.tc : Thread Cert.Kernel2Ideal.nD Cert.Kernel2Ideal.τ).loc Cert.Kernel2Ideal.main_v29_6) = v6 c
          ∧ r.2.mem ((c.tc : Thread Cert.Kernel2Ideal.nD Cert.Kernel2Ideal.τ).loc Cert.Kernel2Ideal.main_v29_7) = v7 c
          ∧ r.2.mem ((c.tc : Thread Cert.Kernel2Ideal.nD Cert.Kernel2Ideal.τ).loc Cert.Kernel2Ideal.main_v29_8) = v8 c
          ∧ r.2.mem ((c.tc : Thread Cert.Kernel2Ideal.nD Cert.Kernel2Ideal.τ).loc Cert.Kernel2Ideal.main_v29_9) = v9 c
          ∧ r.2.mem ((c.tc : Thread Cert.Kernel2Ideal.nD Cert.Kernel2Ideal.τ).loc Cert.Kernel2Ideal.main_v29_10) = v10 c
          ∧ r.2.mem ((c.tc : Thread Cert.Kernel2Ideal.nD Cert.Kernel2Ideal.τ).loc Cert.Kernel2Ideal.main_v29_11) = v11 c
          ∧ r.2.mem ((c.tc : Thread Cert.Kernel2Ideal.nD Cert.Kernel2Ideal.τ).loc Cert.Kernel2Ideal.main_v29_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_v13) = v2 c
          ∧ r.2.mem ((c.tc : Thread Cert.Reference2Ideal.nD Cert.Reference2Ideal.τ).loc Cert.Reference2Ideal.main_v14) = v3 c
          ∧ r.2.mem ((c.tc : Thread Cert.Reference2Ideal.nD Cert.Reference2Ideal.τ).loc Cert.Reference2Ideal.main_v6) = v4 c
          ∧ r.2.mem ((c.tc : Thread Cert.Reference2Ideal.nD Cert.Reference2Ideal.τ).loc Cert.Reference2Ideal.main_v7) = v5 c
          ∧ r.2.mem ((c.tc : Thread Cert.Reference2Ideal.nD Cert.Reference2Ideal.τ).loc Cert.Reference2Ideal.main_v9) = v6 c
          ∧ r.2.mem ((c.tc : Thread Cert.Reference2Ideal.nD Cert.Reference2Ideal.τ).loc Cert.Reference2Ideal.main_v18) = v7 c
          ∧ r.2.mem ((c.tc : Thread Cert.Reference2Ideal.nD Cert.Reference2Ideal.τ).loc Cert.Reference2Ideal.main_v20) = v8 c
          ∧ r.2.mem ((c.tc : Thread Cert.Reference2Ideal.nD Cert.Reference2Ideal.τ).loc Cert.Reference2Ideal.main_v22) = v9 c
          ∧ r.2.mem ((c.tc : Thread Cert.Reference2Ideal.nD Cert.Reference2Ideal.τ).loc Cert.Reference2Ideal.main_v26) = v10 c
          ∧ r.2.mem ((c.tc : Thread Cert.Reference2Ideal.nD Cert.Reference2Ideal.τ).loc Cert.Reference2Ideal.main_v28) = v11 c
          ∧ r.2.mem ((c.tc : Thread Cert.Reference2Ideal.nD Cert.Reference2Ideal.τ).loc Cert.Reference2Ideal.main_v29) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v75) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_logits.lean ====
abbrev S4x512x4096 : Shape := ⟨3, ![4, 512, 4096]⟩
abbrev S4x4096x512 : Shape := ⟨3, ![4, 4096, 512]⟩
abbrev S1x129x8 : Shape := ⟨3, ![1, 129, 8]⟩
abbrev S_ : Shape := ⟨0, ![]⟩

class Facts : Prop where
  bitsLt_bf16_f32 : FTy.bits .bf16 < FTy.bits .f32
  bcast_S_S4x512x4096 : S_.BroadcastsInDim S4x512x4096 (![] : Fin 0 → Fin S4x512x4096.rank)
  bcast_S_S4x4096x512 : S_.BroadcastsInDim S4x4096x512 (![] : Fin 0 → Fin S4x4096x512.rank)
  bcast_S_S1x129x8 : S_.BroadcastsInDim S1x129x8 (![] : Fin 0 → Fin S1x129x8.rank)

variable [Facts]

def fn {F : FTy → Type} [FloatOps F] (main_arg0 : FVec F S4x512x4096 .bf16) (main_arg1 : FVec F S4x4096x512 .bf16) (main_arg2 : FVec F S4x512x4096 .bf16) (main_arg3 : FVec F S1x129x8 .f32) : IVec S4x512x4096 1 × IVec S4x4096x512 1 × IVec S1x129x8 1 :=
  let main_v0 : FVec F S4x512x4096 .f32 := (extf .f32 · bitsLt_bf16_f32) main_arg0
  let main_v1 : FVec F S4x512x4096 .f32 := Host.absf main_v0
  let main_cst : FVec F S_ .f32 := constant S_ .f32 0x7F800000#32
  let main_v2 : FVec F S4x512x4096 .f32 := broadcastInDim S4x512x4096 ![] bcast_S_S4x512x4096 main_cst
  let main_v3 : IVec S4x512x4096 1 := cmpf .olt main_v1 main_v2
  let main_v4 : FVec F S4x4096x512 .f32 := (extf .f32 · bitsLt_bf16_f32) main_arg1
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_v8 : FVec F S1x129x8 .f32 := Host.absf main_arg3
  let main_cst_1 : FVec F S_ .f32 := constant S_ .f32 0x7F800000#32
  let main_v9 : FVec F S1x129x8 .f32 := broadcastInDim S1x129x8 ![] bcast_S_S1x129x8 main_cst_1
  let main_v10 : IVec S1x129x8 1 := cmpf .olt main_v8 main_v9
  (main_v3, main_v7, main_v10)
-- ==== Kernel.lean ====
abbrev S4x512x4096 : Shape := ⟨3, ![4, 512, 4096]⟩
abbrev S4x4096x512 : Shape := ⟨3, ![4, 4096, 512]⟩
abbrev S1x129x8 : Shape := ⟨3, ![1, 129, 8]⟩
abbrev S256 : Shape := ⟨1, ![256]⟩
abbrev S256x1 : Shape := ⟨2, ![256, 1]⟩
abbrev S_ : Shape := ⟨0, ![]⟩
abbrev S768 : Shape := ⟨1, ![768]⟩
abbrev S1x768 : Shape := ⟨2, ![1, 768]⟩
abbrev S256x768 : Shape := ⟨2, ![256, 768]⟩
abbrev S1023 : Shape := ⟨1, ![1023]⟩
abbrev S129x8 : Shape := ⟨2, ![129, 8]⟩
abbrev S1023x1 : Shape := ⟨2, ![1023, 1]⟩
abbrev S1023x8 : Shape := ⟨2, ![1023, 8]⟩
abbrev S8x1023 : Shape := ⟨2, ![8, 1023]⟩
abbrev S8x1024 : Shape := ⟨2, ![8, 1024]⟩
abbrev S1x8x1x1024 : Shape := ⟨4, ![1, 8, 1, 1024]⟩
abbrev S1x8x256x1024 : Shape := ⟨4, ![1, 8, 256, 1024]⟩
abbrev S8x262144 : Shape := ⟨2, ![8, 262144]⟩
abbrev S8x261888 : Shape := ⟨2, ![8, 261888]⟩
abbrev S8x256x1023 : Shape := ⟨3, ![8, 256, 1023]⟩
abbrev S8x256x768 : Shape := ⟨3, ![8, 256, 768]⟩
abbrev S1x256x768 : Shape := ⟨3, ![1, 256, 768]⟩
abbrev S8x768x256 : Shape := ⟨3, ![8, 768, 256]⟩
abbrev S1x512x256 : Shape := ⟨3, ![1, 512, 256]⟩
abbrev S1x256x512 : Shape := ⟨3, ![1, 256, 512]⟩
abbrev S256x512 : Shape := ⟨2, ![256, 512]⟩
abbrev S768x512 : Shape := ⟨2, ![768, 512]⟩
abbrev S512x256 : Shape := ⟨2, ![512, 256]⟩
abbrev S512x768 : Shape := ⟨2, ![512, 768]⟩
abbrev S64x256 : Shape := ⟨2, ![64, 256]⟩
abbrev S1x64x256 : Shape := ⟨3, ![1, 64, 256]⟩
abbrev S128x256 : Shape := ⟨2, ![128, 256]⟩
abbrev S768x128 : Shape := ⟨2, ![768, 128]⟩
abbrev S768x256 : Shape := ⟨2, ![768, 256]⟩
abbrev S1x768x256 : Shape := ⟨3, ![1, 768, 256]⟩
abbrev S8x512x256 : Shape := ⟨3, ![8, 512, 256]⟩
abbrev S8x256x256 : Shape := ⟨3, ![8, 256, 256]⟩
abbrev S16x768 : Shape := ⟨2, ![16, 768]⟩
abbrev S128x768 : Shape := ⟨2, ![128, 768]⟩
abbrev S144x768 : Shape := ⟨2, ![144, 768]⟩
abbrev S1x256 : Shape := ⟨2, ![1, 256]⟩
abbrev S144x256 : Shape := ⟨2, ![144, 256]⟩

abbrev nBuf : Space → Nat
  | .hbm => 140
  | .vmem => 18
  | .smem => 0
  | _ => 0

abbrev hbmTy0_0 (i : Nat) : BufTy := match i % 128 with
  | 0 => ⟨S4x512x4096, .bf16⟩
  | 1 => ⟨S4x4096x512, .bf16⟩
  | 2 => ⟨S4x512x4096, .bf16⟩
  | 3 => ⟨S1x129x8, .f32⟩
  | 4 => ⟨S256, .i32⟩
  | 5 => ⟨S256x1, .i32⟩
  | 6 => ⟨S_, .i32⟩
  | 7 => ⟨S256x1, .i32⟩
  | 8 => ⟨S256x1, .i32⟩
  | 9 => ⟨S768, .i32⟩
  | 10 => ⟨S1x768, .i32⟩
  | 11 => ⟨S_, .i32⟩
  | 12 => ⟨S_, .i32⟩
  | 13 => ⟨S1x768, .i32⟩
  | 14 => ⟨S1x768, .i32⟩
  | 15 => ⟨S1x768, .i32⟩
  | 16 => ⟨S_, .i32⟩
  | 17 => ⟨S1x768, .i32⟩
  | 18 => ⟨S1x768, .i1⟩
  | 19 => ⟨S1x768, .i32⟩
  | 20 => ⟨S1x768, .i32⟩
  | 21 => ⟨S_, .i32⟩
  | 22 => ⟨S1x768, .i32⟩
  | 23 => ⟨S1x768, .i1⟩
  | 24 => ⟨S1x768, .i1⟩
  | 25 => ⟨S_, .i32⟩
  | 26 => ⟨S1x768, .i32⟩
  | 27 => ⟨S1x768, .i32⟩
  | 28 => ⟨S1x768, .i32⟩
  | 29 => ⟨S_, .i32⟩
  | 30 => ⟨S_, .i32⟩
  | 31 => ⟨S256x1, .i32⟩
  | 32 => ⟨S256x1, .i32⟩
  | 33 => ⟨S256x1, .i32⟩
  | 34 => ⟨S_, .i32⟩
  | 35 => ⟨S256x1, .i32⟩
  | 36 => ⟨S256x1, .i1⟩
  | 37 => ⟨S256x1, .i32⟩
  | 38 => ⟨S256x1, .i32⟩
  | 39 => ⟨S_, .i32⟩
  | 40 => ⟨S256x1, .i32⟩
  | 41 => ⟨S256x1, .i1⟩
  | 42 => ⟨S256x1, .i1⟩
  | 43 => ⟨S_, .i32⟩
  | 44 => ⟨S256x1, .i32⟩
  | 45 => ⟨S256x1, .i32⟩
  | 46 => ⟨S256x1, .i32⟩
  | 47 => ⟨S256x768, .i32⟩
  | 48 => ⟨S256x768, .i32⟩
  | 49 => ⟨S256x768, .i1⟩
  | 50 => ⟨S_, .i32⟩
  | 51 => ⟨S_, .i32⟩
  | 52 => ⟨S1x768, .i32⟩
  | 53 => ⟨S1x768, .i32⟩
  | 54 => ⟨S1x768, .i32⟩
  | 55 => ⟨S_, .i32⟩
  | 56 => ⟨S1x768, .i32⟩
  | 57 => ⟨S1x768, .i1⟩
  | 58 => ⟨S1x768, .i32⟩
  | 59 => ⟨S1x768, .i32⟩
  | 60 => ⟨S_, .i32⟩
  | 61 => ⟨S1x768, .i32⟩
  | 62 => ⟨S1x768, .i1⟩
  | 63 => ⟨S1x768, .i1⟩
  | 64 => ⟨S_, .i32⟩
  | 65 => ⟨S1x768, .i32⟩
  | 66 => ⟨S1x768, .i32⟩
  | 67 => ⟨S1x768, .i32⟩
  | 68 => ⟨S_, .i32⟩
  | 69 => ⟨S_, .i32⟩
  | 70 => ⟨S256x1, .i32⟩
  | 71 => ⟨S256x1, .i32⟩
  | 72 => ⟨S256x1, .i32⟩
  | 73 => ⟨S_, .i32⟩
  | 74 => ⟨S256x1, .i32⟩
  | 75 => ⟨S256x1, .i1⟩
  | 76 => ⟨S256x1, .i32⟩
  | 77 => ⟨S256x1, .i32⟩
  | 78 => ⟨S_, .i32⟩
  | 79 => ⟨S256x1, .i32⟩
  | 80 => ⟨S256x1, .i1⟩
  | 81 => ⟨S256x1, .i1⟩
  | 82 => ⟨S_, .i32⟩
  | 83 => ⟨S256x1, .i32⟩
  | 84 => ⟨S256x1, .i32⟩
  | 85 => ⟨S256x1, .i32⟩
  | 86 => ⟨S_, .i32⟩
  | 87 => ⟨S256x1, .i32⟩
  | 88 => ⟨S256x1, .i32⟩
  | 89 => ⟨S256x768, .i32⟩
  | 90 => ⟨S256x768, .i32⟩
  | 91 => ⟨S256x768, .i1⟩
  | 92 => ⟨S256x768, .i1⟩
  | 93 => ⟨S1023, .i32⟩
  | 94 => ⟨S_, .i32⟩
  | 95 => ⟨S1023, .i32⟩
  | 96 => ⟨S1023, .i32⟩
  | 97 => ⟨S129x8, .f32⟩
  | 98 => ⟨S_, .i32⟩
  | 99 => ⟨S1023, .i32⟩
  | 100 => ⟨S1023, .i32⟩
  | 101 => ⟨S_, .i32⟩
  | 102 => ⟨S_, .i32⟩
  | 103 => ⟨S_, .i32⟩
  | 104 => ⟨S1023, .i32⟩
  | 105 => ⟨S1023, .i32⟩
  | 106 => ⟨S_, .i32⟩
  | 107 => ⟨S1023, .i32⟩
  | 108 => ⟨S1023, .i32⟩
  | 109 => ⟨S_, .i32⟩
  | 110 => ⟨S1023, .i32⟩
  | 111 => ⟨S1023, .i32⟩
  | 112 => ⟨S_, .i32⟩
  | 113 => ⟨S1023, .i32⟩
  | 114 => ⟨S1023, .i1⟩
  | 115 => ⟨S_, .i32⟩
  | 116 => ⟨S1023, .i32⟩
  | 117 => ⟨S1023, .i32⟩
  | 118 => ⟨S1023, .i32⟩
  | 119 => ⟨S1023x1, .i32⟩
  | 120 => ⟨S1023x8, .f32⟩
  | 121 => ⟨S1023x8, .f32⟩
  | 122 => ⟨S8x1023, .f32⟩
  | 123 => ⟨S_, .i32⟩
  | 124 => ⟨S_, .f32⟩
  | 125 => ⟨S8x1024, .f32⟩
  | 126 => ⟨S1x8x1x1024, .f32⟩
  | 127 => ⟨S1x8x256x1024, .f32⟩
  | _ => ⟨S4x512x4096, .bf16⟩

abbrev hbmTy0_1 (i : Nat) : BufTy := match i % 128 with
  | 0 => ⟨S8x262144, .f32⟩
  | 1 => ⟨S8x261888, .f32⟩
  | 2 => ⟨S8x256x1023, .f32⟩
  | 3 => ⟨S8x256x768, .f32⟩
  | 4 => ⟨S1x256x768, .i1⟩
  | 5 => ⟨S_, .f32⟩
  | 6 => ⟨S_, .f32⟩
  | 7 => ⟨S8x256x768, .i1⟩
  | 8 => ⟨S8x256x768, .f32⟩
  | 9 => ⟨S8x256x768, .f32⟩
  | 10 => ⟨S8x768x256, .f32⟩
  | 11 => ⟨S4x512x4096, .bf16⟩
  | _ => ⟨S4x512x4096, .bf16⟩

abbrev hbmTy (i : Nat) : BufTy := match i / 128 with
  | 0 => hbmTy0_0 i
  | 1 => hbmTy0_1 i
  | _ => ⟨S4x512x4096, .bf16⟩

abbrev bufTy : (tb : Table) → Fin (tcTables nBuf tb) → BufTy
  | .hbm, ⟨i, _⟩ => hbmTy i
  | .local _ .vmem, ⟨0, _⟩ => ⟨S1x512x256, .bf16⟩
  | .local _ .vmem, ⟨1, _⟩ => ⟨S1x512x256, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S8x768x256, .f32⟩
  | .local _ .vmem, ⟨15, _⟩ => ⟨S1x512x256, .bf16⟩
  | .local _ .vmem, ⟨16, _⟩ => ⟨S1x512x256, .bf16⟩
  | .local _ .vmem, ⟨17, _⟩ => ⟨S8x768x256, .f32⟩
  | _, _ => ⟨S4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_c_1 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_2 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v11 : Ref sig .tc := ⟨.hbm, 67, rfl⟩
abbrev main_c_3 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_v7 : Ref sig .tc := ⟨.hbm, 76, rfl⟩
abbrev main_call3_v8 : Ref sig .tc := ⟨.hbm, 77, rfl⟩
abbrev main_call3_c : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_0 : Ref sig .tc := ⟨.hbm, 82, rfl⟩
abbrev main_call3_v12 : Ref sig .tc := ⟨.hbm, 83, rfl⟩
abbrev main_call3_v13 : Ref sig .tc := ⟨.hbm, 84, rfl⟩
abbrev main_v12 : Ref sig .tc := ⟨.hbm, 85, rfl⟩
abbrev main_c_4 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16 : Ref sig .tc := ⟨.hbm, 90, rfl⟩
abbrev main_v17 : Ref sig .tc := ⟨.hbm, 91, rfl⟩
abbrev main_v18 : Ref sig .tc := ⟨.hbm, 92, rfl⟩
abbrev main_v19 : Ref sig .tc := ⟨.hbm, 93, rfl⟩
abbrev main_c_5 : Ref sig .tc := ⟨.hbm, 94, rfl⟩
abbrev main_v20 : Ref sig .tc := ⟨.hbm, 95, rfl⟩
abbrev main_v21 : Ref sig .tc := ⟨.hbm, 96, rfl⟩
abbrev main_v22 : Ref sig .tc := ⟨.hbm, 97, rfl⟩
abbrev main_c_6 : Ref sig .tc := ⟨.hbm, 98, rfl⟩
abbrev main_v23 : Ref sig .tc := ⟨.hbm, 99, rfl⟩
abbrev main_v24 : Ref sig .tc := ⟨.hbm, 100, rfl⟩
abbrev main_c_7 : Ref sig .tc := ⟨.hbm, 101, rfl⟩
abbrev main_c_8 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v25 : Ref sig .tc := ⟨.hbm, 108, rfl⟩
abbrev main_c_9 : Ref sig .tc := ⟨.hbm, 109, rfl⟩
abbrev main_v26 : Ref sig .tc := ⟨.hbm, 110, rfl⟩
abbrev main_v27 : Ref sig .tc := ⟨.hbm, 111, rfl⟩
abbrev main_c_10 : Ref sig .tc := ⟨.hbm, 112, rfl⟩
abbrev main_v28 : Ref sig .tc := ⟨.hbm, 113, rfl⟩
abbrev main_v29 : Ref sig .tc := ⟨.hbm, 114, rfl⟩
abbrev main_c_11 : Ref sig .tc := ⟨.hbm, 115, rfl⟩
abbrev main_v30 : Ref sig .tc := ⟨.hbm, 116, rfl⟩
abbrev main_v31 : Ref sig .tc := ⟨.hbm, 117, rfl⟩
abbrev main_v32 : Ref sig .tc := ⟨.hbm, 118, rfl⟩
abbrev main_v33 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_c_12 : Ref sig .tc := ⟨.hbm, 123, rfl⟩
abbrev main_call5_v0 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_cst : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, v1.toNat, c0_i32_1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, c0_i32_1.toNat, v1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x768x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4x512x4096 : Shape := ⟨3, ![4, 512, 4096]⟩
abbrev S4x4096x512 : Shape := ⟨3, ![4, 4096, 512]⟩
abbrev S1x129x8 : Shape := ⟨3, ![1, 129, 8]⟩
abbrev S129x8 : Shape := ⟨2, ![129, 8]⟩
abbrev S4x4096x8x64 : Shape := ⟨4, ![4, 4096, 8, 64]⟩
abbrev S_ : Shape := ⟨0, ![]⟩
abbrev S4x4608x8x64 : Shape := ⟨4, ![4, 4608, 8, 64]⟩
abbrev S4x72x64x8x64 : Shape := ⟨5, ![4, 72, 64, 8, 64]⟩
abbrev S64 : Shape := ⟨1, ![64]⟩
abbrev S64x1 : Shape := ⟨2, ![64, 1]⟩
abbrev S9 : Shape := ⟨1, ![9]⟩
abbrev S1x9 : Shape := ⟨2, ![1, 9]⟩
abbrev S64x9 : Shape := ⟨2, ![64, 9]⟩
abbrev S64x9x1 : Shape := ⟨3, ![64, 9, 1]⟩
abbrev S4x64x9x64x8x64 : Shape := ⟨6, ![4, 64, 9, 64, 8, 64]⟩
abbrev S4x64x576x8x64 : Shape := ⟨5, ![4, 64, 576, 8, 64]⟩
abbrev S4x64x64x8x64 : Shape := ⟨5, ![4, 64, 64, 8, 64]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S64x576x8 : Shape := ⟨3, ![64, 576, 8]⟩
abbrev S8x64x576 : Shape := ⟨3, ![8, 64, 576]⟩
abbrev S4x64x8x64x576 : Shape := ⟨5, ![4, 64, 8, 64, 576]⟩
abbrev S1x1x8x64x576 : Shape := ⟨5, ![1, 1, 8, 64, 576]⟩
abbrev S1x64x1x1x576 : Shape := ⟨5, ![1, 64, 1, 1, 576]⟩
abbrev S4x64x8x64 : Shape := ⟨4, ![4, 64, 8, 64]⟩
abbrev S4x64x8x64x1 : Shape := ⟨5, ![4, 64, 8, 64, 1]⟩
abbrev S4x64x8x64x64 : Shape := ⟨5, ![4, 64, 8, 64, 64]⟩

abbrev nBuf : Space → Nat
  | .hbm => 125
  | .vmem => 0
  | .smem => 0
  | _ => 0

abbrev bufTy : (tb : Table) → Fin (tcTables nBuf tb) → BufTy
  | .hbm, ⟨0, _⟩ => ⟨S4x512x4096, .bf16⟩
  | .hbm, ⟨1, _⟩ => ⟨S4x4096x512, .bf16⟩
  | .hbm, ⟨2, _⟩ => ⟨S4x512x4096, .bf16⟩
  | .hbm, ⟨3, _⟩ => ⟨S1x129x8, .f32⟩
  | .hbm, ⟨4, _⟩ => ⟨S129x8, .f32⟩
  | .hbm, ⟨5, _⟩ => ⟨S4x512x4096, .f32⟩
  | .hbm, ⟨6, _⟩ => ⟨S4x4096x512, .f32⟩
  | .hbm, ⟨7, _⟩ => ⟨S4x4096x8x64, .f32⟩
  | .hbm, ⟨8, _⟩ => ⟨S4x4096x512, .f32⟩
  | .hbm, ⟨9, _⟩ => ⟨S4x4096x8x64, .f32⟩
  | .hbm, ⟨10, _⟩ => ⟨S4x512x4096, .f32⟩
  | .hbm, ⟨11, _⟩ => ⟨S4x4096x512, .f32⟩
  | .hbm, ⟨12, _⟩ => ⟨S4x4096x8x64, .f32⟩
  | .hbm, ⟨13, _⟩ => ⟨S_, .i32⟩
  | .hbm, ⟨14, _⟩ => ⟨S_, .f32⟩
  | .hbm, ⟨15, _⟩ => ⟨S4x4608x8x64, .f32⟩
  | .hbm, ⟨16, _⟩ => ⟨S4x72x64x8x64, .f32⟩
  | .hbm, ⟨17, _⟩ => ⟨S_, .i32⟩
  | .hbm, ⟨18, _⟩ => ⟨S_, .f32⟩
  | .hbm, ⟨19, _⟩ => ⟨S4x4608x8x64, .f32⟩
  | .hbm, ⟨20, _⟩ => ⟨S4x72x64x8x64, .f32⟩
  | .hbm, ⟨21, _⟩ => ⟨S64, .i32⟩
  | .hbm, ⟨22, _⟩ => ⟨S64x1, .i32⟩
  | .hbm, ⟨23, _⟩ => ⟨S9, .i32⟩
  | .hbm, ⟨24, _⟩ => ⟨S1x9, .i32⟩
  | .hbm, ⟨25, _⟩ => ⟨S64x9, .i32⟩
  | .hbm, ⟨26, _⟩ => ⟨S64x9, .i32⟩
  | .hbm, ⟨27, _⟩ => ⟨S64x9, .i32⟩
  | .hbm, ⟨28, _⟩ => ⟨S_, .i32⟩
  | .hbm, ⟨29, _⟩ => ⟨S64x9, .i32⟩
  | .hbm, ⟨30, _⟩ => ⟨S64x9, .i1⟩
  | .hbm, ⟨31, _⟩ => ⟨S_, .i32⟩
  | .hbm, ⟨32, _⟩ => ⟨S64x9, .i32⟩
  | .hbm, ⟨33, _⟩ => ⟨S64x9, .i32⟩
  | .hbm, ⟨34, _⟩ => ⟨S64x9, .i32⟩
  | .hbm, ⟨35, _⟩ => ⟨S64x9x1, .i32⟩
  | .hbm, ⟨36, _⟩ => ⟨S4x64x9x64x8x64, .f32⟩
  | .hbm, ⟨37, _⟩ => ⟨S4x64x576x8x64, .f32⟩
  | .hbm, ⟨38, _⟩ => ⟨S_, .i32⟩
  | .hbm, ⟨39, _⟩ => ⟨S64x9, .i32⟩
  | .hbm, ⟨40, _⟩ => ⟨S64x9, .i1⟩
  | .hbm, ⟨41, _⟩ => ⟨S_, .i32⟩
  | .hbm, ⟨42, _⟩ => ⟨S64x9, .i32⟩
  | .hbm, ⟨43, _⟩ => ⟨S64x9, .i32⟩
  | .hbm, ⟨44, _⟩ => ⟨S64x9, .i32⟩
  | .hbm, ⟨45, _⟩ => ⟨S64x9x1, .i32⟩
  | .hbm, ⟨46, _⟩ => ⟨S4x64x9x64x8x64, .f32⟩
  | .hbm, ⟨47, _⟩ => ⟨S4x64x576x8x64, .f32⟩
  | .hbm, ⟨48, _⟩ => ⟨S4x64x64x8x64, .f32⟩
  | .hbm, ⟨49, _⟩ => ⟨S64, .i32⟩
  | .hbm, ⟨50, _⟩ => ⟨S64x1, .i32⟩
  | .hbm, ⟨51, _⟩ => ⟨S_, .i32⟩
  | .hbm, ⟨52, _⟩ => ⟨S64x1, .i32⟩
  | .hbm, ⟨53, _⟩ => ⟨S64x1, .i32⟩
  | .hbm, ⟨54, _⟩ => ⟨S576, .i32⟩
  | .hbm, ⟨55, _⟩ => ⟨S1x576, .i32⟩
  | .hbm, ⟨56, _⟩ => ⟨S64x576, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S_, .i32⟩
  | .hbm, ⟨65, _⟩ => ⟨S64x576, .i32⟩
  | .hbm, ⟨66, _⟩ => ⟨S64x576, .i32⟩
  | .hbm, ⟨67, _⟩ => ⟨S_, .i32⟩
  | .hbm, ⟨68, _⟩ => ⟨S64x576, .i32⟩
  | .hbm, ⟨69, _⟩ => ⟨S64x576, .i32⟩
  | .hbm, ⟨70, _⟩ => ⟨S_, .i32⟩
  | .hbm, ⟨71, _⟩ => ⟨S64x576, .i32⟩
  | .hbm, ⟨72, _⟩ => ⟨S64x576, .i1⟩
  | .hbm, ⟨73, _⟩ => ⟨S_, .i32⟩
  | .hbm, ⟨74, _⟩ => ⟨S64x576, .i32⟩
  | .hbm, ⟨75, _⟩ => ⟨S64x576, .i32⟩
  | .hbm, ⟨76, _⟩ => ⟨S64x576, .i32⟩
  | .hbm, ⟨77, _⟩ => ⟨S64x576x1, .i32⟩
  | .hbm, ⟨78, _⟩ => ⟨S64x576x8, .f32⟩
  | .hbm, ⟨79, _⟩ => ⟨S8x64x576, .f32⟩
  | .hbm, ⟨80, _⟩ => ⟨S64, .i32⟩
  | .hbm, ⟨81, _⟩ => ⟨S64x1, .i32⟩
  | .hbm, ⟨82, _⟩ => ⟨S_, .i32⟩
  | .hbm, ⟨83, _⟩ => ⟨S64x1, .i32⟩
  | .hbm, ⟨84, _⟩ => ⟨S64x1, .i32⟩
  | .hbm, ⟨85, _⟩ => ⟨S_, .i32⟩
  | .hbm, ⟨86, _⟩ => ⟨S64x1, .i32⟩
  | .hbm, ⟨87, _⟩ => ⟨S64x1, .i32⟩
  | .hbm, ⟨88, _⟩ => ⟨S576, .i32⟩
  | .hbm, ⟨89, _⟩ => ⟨S1x576, .i32⟩
  | .hbm, ⟨90, _⟩ => ⟨S64x576, .i32⟩
  | .hbm, ⟨91, _⟩ => ⟨S64x576, .i32⟩
  | .hbm, ⟨92, _⟩ => ⟨S64x576, .i32⟩
  | .hbm, ⟨93, _⟩ => ⟨S4x64x8x64x576, .f32⟩
  | .hbm, ⟨94, _⟩ => ⟨S1x1x8x64x576, .f32⟩
  | .hbm, ⟨95, _⟩ => ⟨S4x64x8x64x576, .f32⟩
  | .hbm, ⟨96, _⟩ => ⟨S4x64x8x64x576, .f32⟩
  | .hbm, ⟨97, _⟩ => ⟨S_, .i32⟩
  | .hbm, ⟨98, _⟩ => ⟨S64x576, .i32⟩
  | .hbm, ⟨99, _⟩ => ⟨S64x576, .i1⟩
  | .hbm, ⟨100, _⟩ => ⟨S1x64x1x1x576, .i1⟩
  | .hbm, ⟨101, _⟩ => ⟨S_, .f32⟩
  | .hbm, ⟨102, _⟩ => ⟨S_, .f32⟩
  | .hbm, ⟨103, _⟩ => ⟨S4x64x8x64x576, .i1⟩
  | .hbm, ⟨104, _⟩ => ⟨S4x64x8x64x576, .f32⟩
  | .hbm, ⟨105, _⟩ => ⟨S4x64x8x64x576, .f32⟩
  | .hbm, ⟨106, _⟩ => ⟨S_, .f32⟩
  | .hbm, ⟨107, _⟩ => ⟨S4x64x8x64, .f32⟩
  | .hbm, ⟨108, _⟩ => ⟨S_, .f32⟩
  | .hbm, ⟨109, _⟩ => ⟨S4x64x8x64, .f32⟩
  | .hbm, ⟨110, _⟩ => ⟨S4x64x8x64, .f32⟩
  | .hbm, ⟨111, _⟩ => ⟨S4x64x8x64x1, .f32⟩
  | .hbm, ⟨112, _⟩ => ⟨S4x64x8x64x576, .f32⟩
  | .hbm, ⟨113, _⟩ => ⟨S4x64x8x64x576, .f32⟩
  | .hbm, ⟨114, _⟩ => ⟨S4x64x8x64x576, .f32⟩
  | .hbm, ⟨115, _⟩ => ⟨S_, .f32⟩
  | .hbm, ⟨116, _⟩ => ⟨S4x64x8x64, .f32⟩
  | .hbm, ⟨117, _⟩ => ⟨S4x64x8x64x1, .f32⟩
  | .hbm, ⟨118, _⟩ => ⟨S4x64x8x64x576, .f32⟩
  | .hbm, ⟨119, _⟩ => ⟨S4x64x8x64x576, .f32⟩
  | .hbm, ⟨120, _⟩ => ⟨S4x64x8x64x64, .f32⟩
  | .hbm, ⟨121, _⟩ => ⟨S4x64x64x8x64, .f32⟩
  | .hbm, ⟨122, _⟩ => ⟨S4x4096x512, .f32⟩
  | .hbm, ⟨123, _⟩ => ⟨S4x512x4096, .f32⟩
  | .hbm, ⟨124, _⟩ => ⟨S4x512x4096, .bf16⟩
  | _, _ => ⟨S4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_c_7 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst : Ref sig .tc := ⟨.hbm, 101, rfl⟩
abbrev main_call3_v0 : Ref sig .tc := ⟨.hbm, 102, rfl⟩
abbrev main_call3_v1 : Ref sig .tc := ⟨.hbm, 103, rfl⟩
abbrev main_call3_v2 : Ref sig .tc := ⟨.hbm, 104, rfl⟩
abbrev main_v75 : Ref sig .tc := ⟨.hbm, 105, rfl⟩
abbrev main_cst_14 : Ref sig .tc := ⟨.hbm, 106, rfl⟩
abbrev main_v76 : Ref sig .tc := ⟨.hbm, 107, rfl⟩
abbrev main_cst_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_16 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩

abbrev nD : Nat := 1
abbrev τ : Topo := Topo.v7x

variable {F : FTy → Type} [FloatOps F]
-- ==== Kernel2.lean ====
abbrev S4x4096x1024 : Shape := ⟨3, ![4, 4096, 1024]⟩
abbrev S1x1024x2888 : Shape := ⟨3, ![1, 1024, 2888]⟩
abbrev S1024x2888 : Shape := ⟨2, ![1024, 2888]⟩
abbrev S1024x512 : Shape := ⟨2, ![1024, 512]⟩
abbrev S1024x128 : Shape := ⟨2, ![1024, 128]⟩
abbrev S1024x64 : Shape := ⟨2, ![1024, 64]⟩
abbrev S1024x832 : Shape := ⟨2, ![1024, 832]⟩
abbrev S_ : Shape := ⟨0, ![]⟩
abbrev S1024x896 : Shape := ⟨2, ![1024, 896]⟩
abbrev S1024x8 : Shape := ⟨2, ![1024, 8]⟩
abbrev S1024x2056 : Shape := ⟨2, ![1024, 2056]⟩
abbrev S2056x1024 : Shape := ⟨2, ![2056, 1024]⟩
abbrev S2064x1024 : Shape := ⟨2, ![2064, 1024]⟩
abbrev S4x4096x512 : Shape := ⟨3, ![4, 4096, 512]⟩
abbrev S4x4096x128 : Shape := ⟨3, ![4, 4096, 128]⟩
abbrev S4x4096x64 : Shape := ⟨3, ![4, 4096, 64]⟩
abbrev S4x512x512 : Shape := ⟨3, ![4, 512, 512]⟩
abbrev S4x512x4096 : Shape := ⟨3, ![4, 512, 4096]⟩
abbrev S4x8x4096 : Shape := ⟨3, ![4, 8, 4096]⟩
abbrev S1x512x1024 : Shape := ⟨3, ![1, 512, 1024]⟩
abbrev S1x512x512 : Shape := ⟨3, ![1, 512, 512]⟩
abbrev S1x512x128 : Shape := ⟨3, ![1, 512, 128]⟩
abbrev S1x512x64 : Shape := ⟨3, ![1, 512, 64]⟩
abbrev S1x8x512 : Shape := ⟨3, ![1, 8, 512]⟩
abbrev S512x1024 : Shape := ⟨2, ![512, 1024]⟩
abbrev S512x512 : Shape := ⟨2, ![512, 512]⟩
abbrev S1024x384 : Shape := ⟨2, ![1024, 384]⟩
abbrev S512x384 : Shape := ⟨2, ![512, 384]⟩
abbrev S512x128 : Shape := ⟨2, ![512, 128]⟩
abbrev S512x64 : Shape := ⟨2, ![512, 64]⟩
abbrev S16x1024 : Shape := ⟨2, ![16, 1024]⟩
abbrev S16x512 : Shape := ⟨2, ![16, 512]⟩
abbrev S8x512 : Shape := ⟨2, ![8, 512]⟩

abbrev nBuf : Space → Nat
  | .hbm => 50
  | .vmem => 30
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2888, .f32⟩
  | .hbm, ⟨2, _⟩ => ⟨S1024x2888, .f32⟩
  | .hbm, ⟨3, _⟩ => ⟨S1024x512, .f32⟩
  | .hbm, ⟨4, _⟩ => ⟨S1024x2888, .f32⟩
  | .hbm, ⟨5, _⟩ => ⟨S1024x128, .f32⟩
  | .hbm, ⟨6, _⟩ => ⟨S1024x2888, .f32⟩
  | .hbm, ⟨7, _⟩ => ⟨S1024x128, .f32⟩
  | .hbm, ⟨8, _⟩ => ⟨S1024x2888, .f32⟩
  | .hbm, ⟨9, _⟩ => ⟨S1024x64, .f32⟩
  | .hbm, ⟨10, _⟩ => ⟨S1024x832, .f32⟩
  | .hbm, ⟨11, _⟩ => ⟨S_, .i32⟩
  | .hbm, ⟨12, _⟩ => ⟨S_, .f32⟩
  | .hbm, ⟨13, _⟩ => ⟨S1024x896, .f32⟩
  | .hbm, ⟨14, _⟩ => ⟨S1024x896, .bf16⟩
  | .hbm, ⟨15, _⟩ => ⟨S1024x2888, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x2888, .f32⟩
  | .hbm, ⟨21, _⟩ => ⟨S1024x512, .f32⟩
  | .hbm, ⟨22, _⟩ => ⟨S1024x2888, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x2888, .f32⟩
  | .hbm, ⟨28, _⟩ => ⟨S1024x512, .f32⟩
  | .hbm, ⟨29, _⟩ => ⟨S1024x2888, .f32⟩
  | .hbm, ⟨30, _⟩ => ⟨S1024x8, .f32⟩
  | .hbm, ⟨31, _⟩ => ⟨S1024x2056, .f32⟩
  | .hbm, ⟨32, _⟩ => ⟨S2056x1024, .f32⟩
  | .hbm, ⟨33, _⟩ => ⟨S_, .i32⟩
  | .hbm, ⟨34, _⟩ => ⟨S_, .f32⟩
  | .hbm, ⟨35, _⟩ => ⟨S2064x1024, .f32⟩
  | .hbm, ⟨36, _⟩ => ⟨S2064x1024, .bf16⟩
  | .hbm, ⟨37, _⟩ => ⟨S4x4096x512, .bf16⟩
  | .hbm, ⟨38, _⟩ => ⟨S4x4096x128, .bf16⟩
  | .hbm, ⟨39, _⟩ => ⟨S4x4096x64, .bf16⟩
  | .hbm, ⟨40, _⟩ => ⟨S4x512x512, .f32⟩
  | .hbm, ⟨41, _⟩ => ⟨S4x4096x128, .f32⟩
  | .hbm, ⟨42, _⟩ => ⟨S4x4096x128, .f32⟩
  | .hbm, ⟨43, _⟩ => ⟨S4x4096x64, .f32⟩
  | .hbm, ⟨44, _⟩ => ⟨S4x512x4096, .bf16⟩
  | .hbm, ⟨45, _⟩ => ⟨S4x512x4096, .bf16⟩
  | .hbm, ⟨46, _⟩ => ⟨S4x512x512, .f32⟩
  | .hbm, ⟨47, _⟩ => ⟨S4x512x4096, .bf16⟩
  | .hbm, ⟨48, _⟩ => ⟨S4x512x4096, .bf16⟩
  | .hbm, ⟨49, _⟩ => ⟨S4x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1024x896, .bf16⟩
  | .local _ .vmem, ⟨3, _⟩ => ⟨S2064x1024, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x64, .bf16⟩
  | .local _ .vmem, ⟨9, _⟩ => ⟨S1x512x64, .bf16⟩
  | .local _ .vmem, ⟨10, _⟩ => ⟨S1x512x512, .f32⟩
  | .local _ .vmem, ⟨11, _⟩ => ⟨S1x512x512, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x64, .f32⟩
  | .local _ .vmem, ⟨17, _⟩ => ⟨S1x512x64, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .f32⟩
  | .local _ .vmem, ⟨23, _⟩ => ⟨S1x512x512, .f32⟩
  | .local _ .vmem, ⟨24, _⟩ => ⟨S1x512x512, .bf16⟩
  | .local _ .vmem, ⟨25, _⟩ => ⟨S1x512x512, .bf16⟩
  | .local _ .vmem, ⟨26, _⟩ => ⟨S1x512x512, .bf16⟩
  | .local _ .vmem, ⟨27, _⟩ => ⟨S1x512x512, .bf16⟩
  | .local _ .vmem, ⟨28, _⟩ => ⟨S1x8x512, .f32⟩
  | .local _ .vmem, ⟨29, _⟩ => ⟨S1x8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_call1_v0 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev main_v29_3 : Ref sig .tc := ⟨.hbm, 40, rfl⟩
abbrev main_v29_4 : Ref sig .tc := ⟨.hbm, 41, rfl⟩
abbrev main_v29_5 : Ref sig .tc := ⟨.hbm, 42, rfl⟩
abbrev main_v29_6 : Ref sig .tc := ⟨.hbm, 43, rfl⟩
abbrev main_v29_7 : Ref sig .tc := ⟨.hbm, 44, rfl⟩
abbrev main_v29_8 : Ref sig .tc := ⟨.hbm, 45, rfl⟩
abbrev main_v29_9 : Ref sig .tc := ⟨.hbm, 46, rfl⟩
abbrev main_v29_10 : Ref sig .tc := ⟨.hbm, 47, rfl⟩
abbrev main_v29_11 : Ref sig .tc := ⟨.hbm, 48, rfl⟩
abbrev main_v29_12 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2064x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S4x4096x1024 : Shape := ⟨3, ![4, 4096, 1024]⟩
abbrev S1x1024x2888 : Shape := ⟨3, ![1, 1024, 2888]⟩
abbrev S1024x2888 : Shape := ⟨2, ![1024, 2888]⟩
abbrev S4x4096x2888 : Shape := ⟨3, ![4, 4096, 2888]⟩
abbrev S4x4096x512 : Shape := ⟨3, ![4, 4096, 512]⟩
abbrev S4x4096x128 : Shape := ⟨3, ![4, 4096, 128]⟩
abbrev S4x4096x64 : Shape := ⟨3, ![4, 4096, 64]⟩
abbrev S4x4096x8 : Shape := ⟨3, ![4, 4096, 8]⟩
abbrev S4x512x512 : Shape := ⟨3, ![4, 512, 512]⟩
abbrev S_ : Shape := ⟨0, ![]⟩
abbrev S4x512x4096 : Shape := ⟨3, ![4, 512, 4096]⟩
abbrev S4x8x4096 : Shape := ⟨3, ![4, 8, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2888, .f32⟩
  | .hbm, ⟨2, _⟩ => ⟨S1024x2888, .f32⟩
  | .hbm, ⟨3, _⟩ => ⟨S4x4096x2888, .f32⟩
  | .hbm, ⟨4, _⟩ => ⟨S4x4096x512, .f32⟩
  | .hbm, ⟨5, _⟩ => ⟨S4x4096x512, .f32⟩
  | .hbm, ⟨6, _⟩ => ⟨S4x4096x512, .f32⟩
  | .hbm, ⟨7, _⟩ => ⟨S4x4096x512, .f32⟩
  | .hbm, ⟨8, _⟩ => ⟨S4x4096x128, .f32⟩
  | .hbm, ⟨9, _⟩ => ⟨S4x4096x128, .f32⟩
  | .hbm, ⟨10, _⟩ => ⟨S4x4096x512, .f32⟩
  | .hbm, ⟨11, _⟩ => ⟨S4x4096x64, .f32⟩
  | .hbm, ⟨12, _⟩ => ⟨S4x4096x8, .f32⟩
  | .hbm, ⟨13, _⟩ => ⟨S4x4096x512, .bf16⟩
  | .hbm, ⟨14, _⟩ => ⟨S4x4096x128, .bf16⟩
  | .hbm, ⟨15, _⟩ => ⟨S4x4096x64, .bf16⟩
  | .hbm, ⟨16, _⟩ => ⟨S4x512x512, .f32⟩
  | .hbm, ⟨17, _⟩ => ⟨S_, .f32⟩
  | .hbm, ⟨18, _⟩ => ⟨S4x4096x512, .f32⟩
  | .hbm, ⟨19, _⟩ => ⟨S4x4096x512, .f32⟩
  | .hbm, ⟨20, _⟩ => ⟨S4x512x4096, .f32⟩
  | .hbm, ⟨21, _⟩ => ⟨S4x512x4096, .bf16⟩
  | .hbm, ⟨22, _⟩ => ⟨S4x512x4096, .f32⟩
  | .hbm, ⟨23, _⟩ => ⟨S4x512x4096, .bf16⟩
  | .hbm, ⟨24, _⟩ => ⟨S4x512x512, .f32⟩
  | .hbm, ⟨25, _⟩ => ⟨S4x512x512, .f32⟩
  | .hbm, ⟨26, _⟩ => ⟨S_, .f32⟩
  | .hbm, ⟨27, _⟩ => ⟨S4x4096x512, .f32⟩
  | .hbm, ⟨28, _⟩ => ⟨S4x4096x512, .f32⟩
  | .hbm, ⟨29, _⟩ => ⟨S4x512x4096, .f32⟩
  | .hbm, ⟨30, _⟩ => ⟨S4x512x4096, .bf16⟩
  | .hbm, ⟨31, _⟩ => ⟨S4x512x4096, .f32⟩
  | .hbm, ⟨32, _⟩ => ⟨S4x512x4096, .bf16⟩
  | .hbm, ⟨33, _⟩ => ⟨S4x8x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x2x2816 : Shape := ⟨3, ![4, 2, 2816]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S1x512x1024 : Shape := ⟨3, ![1, 512, 1024]⟩
abbrev S1x2x2816 : Shape := ⟨3, ![1, 2, 2816]⟩
abbrev S2x2816 : Shape := ⟨2, ![2, 2816]⟩
abbrev S512x1024 : Shape := ⟨2, ![512, 1024]⟩
abbrev S512x256 : Shape := ⟨2, ![512, 256]⟩
abbrev S1024x256 : Shape := ⟨2, ![1024, 256]⟩
abbrev S1x256 : Shape := ⟨2, ![1, 256]⟩
abbrev S256x1024 : Shape := ⟨2, ![256, 1024]⟩
abbrev S2x256 : Shape := ⟨2, ![2, 256]⟩
abbrev S512 : Shape := ⟨1, ![512]⟩
abbrev S512x1 : Shape := ⟨2, ![512, 1]⟩

abbrev nBuf : Space → Nat
  | .hbm => 21
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x2x2816, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S1024x5632, .bf16⟩
  | .hbm, ⟨10, _⟩ => ⟨S3x2816, .f32⟩
  | .hbm, ⟨11, _⟩ => ⟨S2816, .f32⟩
  | .hbm, ⟨12, _⟩ => ⟨S1x2816, .f32⟩
  | .hbm, ⟨13, _⟩ => ⟨S2816x1024, .f32⟩
  | .hbm, ⟨14, _⟩ => ⟨S2816x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S4x4096x1024, .f32⟩
  | .hbm, ⟨20, _⟩ => ⟨S4x2x2816, .f32⟩
  | .local _ .vmem, ⟨0, _⟩ => ⟨S1x512x1024, .f32⟩
  | .local _ .vmem, ⟨1, _⟩ => ⟨S1x512x1024, .f32⟩
  | .local _ .vmem, ⟨2, _⟩ => ⟨S1x2x2816, .f32⟩
  | .local _ .vmem, ⟨3, _⟩ => ⟨S1x2x2816, .f32⟩
  | .local _ .vmem, ⟨4, _⟩ => ⟨S1024x5632, .bf16⟩
  | .local _ .vmem, ⟨5, _⟩ => ⟨S3x2816, .f32⟩
  | .local _ .vmem, ⟨6, _⟩ => ⟨S1x2816, .f32⟩
  | .local _ .vmem, ⟨7, _⟩ => ⟨S2816x1024, .bf16⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x2x2816, .f32⟩
  | .local _ .vmem, ⟨13, _⟩ => ⟨S1x2x2816, .f32⟩
  | .local _ .vmem, ⟨14, _⟩ => ⟨S2x2816, .f32⟩
  | .local _ .vmem, ⟨15, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S4x4096x1024 : Shape := ⟨3, ![4, 4096, 1024]⟩
abbrev S4x2x2816 : Shape := ⟨3, ![4, 2, 2816]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1x1024 : Shape := ⟨2, ![1, 1024]⟩
abbrev S1024x5632 : Shape := ⟨2, ![1024, 5632]⟩
abbrev S4x4096x5632 : Shape := ⟨3, ![4, 4096, 5632]⟩
abbrev S4x4096x2816 : Shape := ⟨3, ![4, 4096, 2816]⟩
abbrev S4x4098x2816 : Shape := ⟨3, ![4, 4098, 2816]⟩
abbrev S2816 : Shape := ⟨1, ![2816]⟩
abbrev S1x1x2816 : Shape := ⟨3, ![1, 1, 2816]⟩
abbrev S_ : Shape := ⟨0, ![]⟩
abbrev S2816x1024 : Shape := ⟨2, ![2816, 1024]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩

abbrev nBuf : Space → Nat
  | .hbm => 96
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x2x2816, .f32⟩
  | .hbm, ⟨2, _⟩ => ⟨S1x1024x5632, .f32⟩
  | .hbm, ⟨3, _⟩ => ⟨S1x3x2816, .f32⟩
  | .hbm, ⟨4, _⟩ => ⟨S1x2816, .f32⟩
  | .hbm, ⟨5, _⟩ => ⟨S1x2816x1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S4x4096x5632, .f32⟩
  | .hbm, ⟨10, _⟩ => ⟨S4x4096x2816, .f32⟩
  | .hbm, ⟨11, _⟩ => ⟨S4x4096x2816, .f32⟩
  | .hbm, ⟨12, _⟩ => ⟨S4x4098x2816, .f32⟩
  | .hbm, ⟨13, _⟩ => ⟨S2816, .f32⟩
  | .hbm, ⟨14, _⟩ => ⟨S1x1x2816, .f32⟩
  | .hbm, ⟨15, _⟩ => ⟨S2816, .f32⟩
  | .hbm, ⟨16, _⟩ => ⟨S4x4096x2816, .f32⟩
  | .hbm, ⟨17, _⟩ => ⟨S1x1x2816, .f32⟩
  | .hbm, ⟨18, _⟩ => ⟨S4x4096x2816, .f32⟩
  | .hbm, ⟨19, _⟩ => ⟨S4x4096x2816, .f32⟩
  | .hbm, ⟨20, _⟩ => ⟨S_, .f32⟩
  | .hbm, ⟨21, _⟩ => ⟨S4x4096x2816, .f32⟩
  | .hbm, ⟨22, _⟩ => ⟨S4x4096x2816, .f32⟩
  | .hbm, ⟨23, _⟩ => ⟨S1x1x2816, .f32⟩
  | .hbm, ⟨24, _⟩ => ⟨S2816, .f32⟩
  | .hbm, ⟨25, _⟩ => ⟨S4x4096x2816, .f32⟩
  | .hbm, ⟨26, _⟩ => ⟨S1x1x2816, .f32⟩
  | .hbm, ⟨27, _⟩ => ⟨S4x4096x2816, .f32⟩
  | .hbm, ⟨28, _⟩ => ⟨S4x4096x2816, .f32⟩
  | .hbm, ⟨29, _⟩ => ⟨S4x4096x2816, .f32⟩
  | .hbm, ⟨30, _⟩ => ⟨S1x1x2816, .f32⟩
  | .hbm, ⟨31, _⟩ => ⟨S2816, .f32⟩
  | .hbm, ⟨32, _⟩ => ⟨S4x4096x2816, .f32⟩
  | .hbm, ⟨33, _⟩ => ⟨S1x1x2816, .f32⟩
  | .hbm, ⟨34, _⟩ => ⟨S4x4096x2816, .f32⟩
  | .hbm, ⟨35, _⟩ => ⟨S4x4096x2816, .f32⟩
  | .hbm, ⟨36, _⟩ => ⟨S4x4096x2816, .f32⟩
  | .hbm, ⟨37, _⟩ => ⟨S1x1x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S_, .f32⟩
  | .hbm, ⟨43, _⟩ => ⟨S4x4096x2816, .f32⟩
  | .hbm, ⟨44, _⟩ => ⟨S4x4096x2816, .f32⟩
  | .hbm, ⟨45, _⟩ => ⟨S4x4096x2816, .f32⟩
  | .hbm, ⟨46, _⟩ => ⟨S_, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S2816x1024, .f32⟩
  | .hbm, ⟨59, _⟩ => ⟨S4x4096x1024, .f32⟩
  | .hbm, ⟨60, _⟩ => ⟨S_, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S_, .f32⟩
  | .hbm, ⟨74, _⟩ => ⟨S4x4096, .f32⟩
  | .hbm, ⟨75, _⟩ => ⟨S4x4096x1, .f32⟩
  | .hbm, ⟨76, _⟩ => ⟨S_, .f32⟩
  | .hbm, ⟨77, _⟩ => ⟨S4x4096x1, .f32⟩
  | .hbm, ⟨78, _⟩ => ⟨S4x4096x1, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x4096x1, .f32⟩
  | .hbm, ⟨83, _⟩ => ⟨S4x4096x1, .f32⟩
  | .hbm, ⟨84, _⟩ => ⟨S4x4096x1, .f32⟩
  | .hbm, ⟨85, _⟩ => ⟨S4x4096x1024, .f32⟩
  | .hbm, ⟨86, _⟩ => ⟨S4x4096x1024, .f32⟩
  | .hbm, ⟨87, _⟩ => ⟨S1024, .f32⟩
  | .hbm, ⟨88, _⟩ => ⟨S1x1x1024, .f32⟩
  | .hbm, ⟨89, _⟩ => ⟨S4x4096x1024, .f32⟩
  | .hbm, ⟨90, _⟩ => ⟨S4x4096x1024, .f32⟩
  | .hbm, ⟨91, _⟩ => ⟨S1024, .f32⟩
  | .hbm, ⟨92, _⟩ => ⟨S1x1x1024, .f32⟩
  | .hbm, ⟨93, _⟩ => ⟨S4x4096x1024, .f32⟩
  | .hbm, ⟨94, _⟩ => ⟨S4x4096x1024, .f32⟩
  | .hbm, ⟨95, _⟩ => ⟨S4x2x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_4 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_5 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_9 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩

abbrev nD : Nat := 1
abbrev τ : Topo := Topo.v7x

variable {F : FTy → Type} [FloatOps F]
-- ==== Kernel4.lean ====
abbrev S4x256x1024 : Shape := ⟨3, ![4, 256, 1024]⟩
abbrev S1x1024x512 : Shape := ⟨3, ![1, 1024, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 9
  | .vmem => 5
  | .smem => 0
  | _ => 0

abbrev bufTy : (tb : Table) → Fin (tcTables nBuf tb) → BufTy
  | .hbm, ⟨0, _⟩ => ⟨S4x256x1024, .f32⟩
  | .hbm, ⟨1, _⟩ => ⟨S1x1024x512, .f32⟩
  | .hbm, ⟨2, _⟩ => ⟨S1x1024x512, .f32⟩
  | .hbm, ⟨3, _⟩ => ⟨S1024x1024, .f32⟩
  | .hbm, ⟨4, _⟩ => ⟨S1024x512, .f32⟩
  | .hbm, ⟨5, _⟩ => ⟨S1024x512, .f32⟩
  | .hbm, ⟨6, _⟩ => ⟨S1024x1024, .f32⟩
  | .hbm, ⟨7, _⟩ => ⟨S1024x1024, .bf16⟩
  | .hbm, ⟨8, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4x256x1024 : Shape := ⟨3, ![4, 256, 1024]⟩
abbrev S1x1024x512 : Shape := ⟨3, ![1, 1024, 512]⟩
abbrev S1024x512 : Shape := ⟨2, ![1024, 512]⟩
abbrev S4x256x512 : Shape := ⟨3, ![4, 256, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1x1024x512, .f32⟩
  | .hbm, ⟨2, _⟩ => ⟨S1x1024x512, .f32⟩
  | .hbm, ⟨3, _⟩ => ⟨S1024x512, .f32⟩
  | .hbm, ⟨4, _⟩ => ⟨S4x256x512, .f32⟩
  | .hbm, ⟨5, _⟩ => ⟨S1024x512, .f32⟩
  | .hbm, ⟨6, _⟩ => ⟨S4x256x512, .f32⟩
  | .hbm, ⟨7, _⟩ => ⟨S4x256x1024, .f32⟩
  | .hbm, ⟨8, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.SoftmaxMath.lean ====
/- Softmax-weighted sums over the extended reals: the two ways of normalising agree when the logits have a real
   maximum, and keys whose logit is `⊥` may be left out. -/
module

public import Idealize.ShloMosaic.PureOps.Ideal.Laws

@[expose] public section

noncomputable section

namespace Cert.SoftmaxMath

open Idealize.ShloMosaic

/-- A common real factor that is not negative comes out of a sum. -/
theorem sum_mul_coe {ι : Type} (t : Finset ι) (f : ι → EReal) (c : ℝ) (hc : 0 ≤ c) :
    (∑ i ∈ t, f i * (c : EReal)) = (∑ i ∈ t, f i) * (c : EReal) := by
  classical
  induction t using Finset.induction_on with
  | empty => simp
  | insert a t ha ih =>
    rw [Finset.sum_insert ha, Finset.sum_insert ha, ih,
      EReal.right_distrib_of_nonneg_of_ne_top (by exact_mod_cast hc) (EReal.coe_ne_top c)]

/-- A sum over `ι` of a function that vanishes off the image of an injection is the sum over the injection's source. -/
theorem sum_eq_of_injective {ι κ : Type} [Fintype ι] [Fintype κ] (f : κ → ι) (hf : Function.Injective f)
    (g : ι → EReal) (g' : κ → EReal) (hg : ∀ k, g (f k) = g' k) (h0 : ∀ i, (∀ k, f k ≠ i) → g i = 0) :
    ∑ i, g i = ∑ k, g' k := by
  classical
  rw [← Finset.sum_congr rfl (fun k _ => hg k)]
  rw [show ∑ k, g (f k) = _ from (Finset.sum_map Finset.univ ⟨f, hf⟩ g).symm]
  symm
  refine Finset.sum_subset (Finset.subset_univ _) fun i _ hi => h0 i fun k hk => hi ?_
  exact Finset.mem_map.mpr ⟨k, Finset.mem_univ _, hk⟩

/-- The maximum likewise, over keys that are `⊥` off the image. -/
theorem max_eq_of_injective {ι κ : Type} [Fintype ι] [Fintype κ] (f : κ → ι)
    (s : ι → EReal) (s' : κ → EReal) (hs : ∀ k, s (f k) = s' k) (h0 : ∀ i, (∀ k, f k ≠ i) → s i = ⊥) :
    Finset.univ.sup s = Finset.univ.sup s' := by
  apply le_antisymm
  · refine Finset.sup_le fun i _ => ?_
    by_cases h : ∃ k, f k = i
    · obtain ⟨k, rfl⟩ := h
      rw [hs]; exact Finset.le_sup (f := s') (Finset.mem_univ k)
    · rw [h0 i (fun k hk => h ⟨k, hk⟩)]; exact bot_le
  · refine Finset.sup_le fun k _ => ?_
    rw [← hs]; exact Finset.le_sup (f := s) (Finset.mem_univ _)

/-- The maximum of a family with no `⊤` and some element above `⊥` is real. -/
theorem exists_real_sup {κ : Type} [Fintype κ] (s : κ → EReal) (htop : ∀ k, s k ≠ ⊤) (hbot : ∃ k, s k ≠ ⊥) :
    ∃ r : ℝ, Finset.univ.sup s = (r : EReal) := by
  have h1 : Finset.univ.sup s ≠ ⊤ := by
    have : Finset.univ.sup s < ⊤ := by
      rw [Finset.sup_lt_iff (by exact bot_lt_top)]
      intro k _; exact lt_top_iff_ne_top.mpr (htop k)
    exact this.ne
  have h2 : Finset.univ.sup s ≠ ⊥ := by
    obtain ⟨k, hk⟩ := hbot
    intro h
    exact hk (le_bot_iff.mp (h ▸ Finset.le_sup (f := s) (Finset.mem_univ k)))
  exact ⟨_, (EReal.coe_toReal h1 h2).symm⟩

/-- The weight of a key is a real number that is not negative, and positive where the logit is real. -/
theorem exists_real_exp (x : EReal) (r : ℝ) (hx : x ≠ ⊤) :
    ∃ e : ℝ, Ideal.exp (x - (r : EReal)) = (e : EReal) ∧ 0 ≤ e ∧ (x ≠ ⊥ → 0 < e) := by
  induction x with
  | bot => exact ⟨0, by rw [sub_eq_add_neg, EReal.bot_add]; rfl, le_rfl, fun h => (h rfl).elim⟩
  | coe x => exact ⟨Real.exp (x - r), by rw [← EReal.coe_sub]; rfl, (Real.exp_pos _).le, fun _ => Real.exp_pos _⟩
  | top => exact (hx rfl).elim

/-- The sum of the weights is a positive real number. -/
theorem exists_real_sum {κ : Type} [Fintype κ] (s : κ → EReal) (r : ℝ) (htop : ∀ k, s k ≠ ⊤) (hbot : ∃ k, s k ≠ ⊥) :
    ∃ l : ℝ, (∑ k, Ideal.exp (s k - (r : EReal))) = (l : EReal) ∧ 0 < l := by
  choose e he h0 hpos using fun k => exists_real_exp (s k) r (htop k)
  refine ⟨∑ k, e k, ?_, ?_⟩
  · have hc : ((∑ k, e k : ℝ) : EReal) = ∑ k, (e k : EReal) := map_sum (⟨⟨Real.toEReal, EReal.coe_zero⟩, EReal.coe_add⟩ : ℝ →+ EReal) e Finset.univ
    rw [hc]; exact Finset.sum_congr rfl fun k _ => he k
  · obtain ⟨k, hk⟩ := hbot
    exact Finset.sum_pos' (fun i _ => h0 i) ⟨k, Finset.mem_univ _, hpos k hk⟩

/-- Dividing each weight by the weights' sum, or the weighted sum once. -/
theorem normalise {κ : Type} [Fintype κ] (s v : κ → EReal) (htop : ∀ k, s k ≠ ⊤) (hbot : ∃ k, s k ≠ ⊥) :
    (∑ k, v k * Ideal.div (Ideal.exp (s k - Finset.univ.sup s)) (∑ k, Ideal.exp (s k - Finset.univ.sup s)))
      = Ideal.div (∑ k, v k * Ideal.exp (s k - Finset.univ.sup s)) (∑ k, Ideal.exp (s k - Finset.univ.sup s)) := by
  obtain ⟨r, hr⟩ := exists_real_sup s htop hbot
  rw [hr]
  obtain ⟨l, hl, hpos⟩ := exists_real_sum s r htop hbot
  rw [hl, Ideal.div_coe hpos.ne', ← sum_mul_coe _ _ _ (one_div_pos.mpr hpos).le]
  refine Finset.sum_congr rfl fun k _ => ?_
  rw [Ideal.div_coe hpos.ne', mul_assoc]

/-- A masked key has weight zero, whatever is subtracted from it. -/
theorem exp_bot_sub (x : EReal) : Ideal.exp (⊥ - x) = 0 := by
  rw [sub_eq_add_neg, EReal.bot_add]; rfl

/-- Attention over a wide window of keys, divided once at the end, is attention over the keys that are not masked, each
    weight divided: `f` places the keys of the narrow window in the wide one; off its image the wide window's logits are
    `⊥`, and where a narrow logit is `⊥` the two values may differ. -/
theorem attention_eq {ι κ : Type} [Fintype ι] [Fintype κ] (f : κ → ι) (hf : Function.Injective f)
    (s v : ι → EReal) (s' v' : κ → EReal) (hs : ∀ k, s (f k) = s' k) (h0 : ∀ i, (∀ k, f k ≠ i) → s i = ⊥)
    (hv : ∀ k, s' k ≠ ⊥ → v (f k) = v' k) (htop : ∀ k, s' k ≠ ⊤) (hbot : ∃ k, s' k ≠ ⊥) :
    Ideal.div (∑ i, v i * Ideal.exp (s i - Finset.univ.sup s)) (∑ i, Ideal.exp (s i - Finset.univ.sup s))
      = ∑ k, v' k * Ideal.div (Ideal.exp (s' k - Finset.univ.sup s')) (∑ k, Ideal.exp (s' k - Finset.univ.sup s')) := by
  rw [normalise s' v' htop hbot, max_eq_of_injective f s s' hs h0]
  congr 1
  · refine sum_eq_of_injective f hf _ _ (fun k => ?_) fun i hi => ?_
    · rw [hs]
      by_cases hk : s' k = ⊥
      · rw [hk, exp_bot_sub, mul_zero, mul_zero]
      · rw [hv k hk]
    · rw [h0 i hi, exp_bot_sub, mul_zero]
  · refine sum_eq_of_injective f hf _ _ (fun k => by rw [hs]) fun i hi => ?_
    rw [h0 i hi, exp_bot_sub]

end Cert.SoftmaxMath

end
-- ==== Proof.BandBias.lean ====
/- The bias the host prepares for the band kernel: the table's entry at the clipped distance from the query to the key where the
   key's chunk is in the query's band, and minus infinity elsewhere. -/
module

public import proofs.«01_k».proof.Proof.Gen.KernelIdeal.Value
public import Idealize.ShloMosaic.Lib.Pointwise
public import Idealize.ShloMosaic.Lib.StableHlo

@[expose] public section

noncomputable section

namespace Cert.KernelIdeal.Band

open Idealize.ShloMosaic Idealize.ShloMosaic.TcCoe Cert.KernelIdeal Cert.KernelIdeal.Gen

/-- The bias of head `h` between query `r` of a block of 256 and key `j` of the 768 that end where the block does. -/
def bandBias (T : Vec Ideal S1x129x8 .f32) (h : Fin 8) (j : Fin 768) (r : Fin 256) : EReal :=
  if 64 * (r.val / 64) ≤ j.val ∧ j.val < 64 * (r.val / 64) + 576 then T (ix3 (0 : Fin 1) ⟨min (576 + r.val - j.val) 128, by omega⟩ h) else ⊥

/-- The host's division of a word by 64 with the quotient rounded down. -/
def floorDiv64 (x : BitVec 32) : BitVec 32 :=
  Scalar.select
    (IntOp.andi
      (IntOp.cmpi .ne (if x = 0 then 0 else if x.msb = true then -1 else 1)
        (if (64#32 : BitVec 32) = 0 then 0 else if BitVec.msb (64#32 : BitVec 32) = true then -1 else (1 : BitVec 32)))
      (IntOp.cmpi .ne (IntOp.remsi ArithUnit.host x 64#32) 0#32))
    (IntOp.subi (IntOp.divsi ArithUnit.host x 64#32) 1#32)
    (IntOp.divsi ArithUnit.host x 64#32)

theorem floorDiv64_ofNat : ∀ x : Fin 768, floorDiv64 (BitVec.ofNat 32 x.val) = BitVec.ofNat 32 (x.val / 64) := by
  decide +kernel

/-- Two chunk numbers compared as the mask compares them. -/
theorem inBand_word : ∀ a b : Fin 12,
    IntOp.andi (IntOp.cmpi .sle (BitVec.ofNat 32 a.val) (BitVec.ofNat 32 b.val))
      (IntOp.cmpi .sge (BitVec.ofNat 32 a.val) (IntOp.subi (BitVec.ofNat 32 b.val) 8#32))
      = if a.val ≤ b.val ∧ b.val ≤ a.val + 8 then 1#1 else 0#1 := by
  decide +kernel

/-- The host's gather of the table's rows, at an index. -/
theorem gather_apply (T : S129x8.Idx → Ideal .f32) (idx : IVec S1023x1 32) (x : Fin 1023) (h : Fin 8) :
    Host.gather gather_S129x8_S1023x1_S1023x8_1_0_n_n_0_1_18 T idx (ix2 x h)
      = T (ix2 ⟨min (idx (ix2 x (0 : Fin 1))).toInt.toNat 128, by omega⟩ h) := by
  have hsi : ∀ k, gather_S129x8_S1023x1_S1023x8_1_0_n_n_0_1_18.siIdx (ix2 x h) k = ix2 x (0 : Fin 1) := by
    intro k
    funext b
    match b with
    | ⟨0, _⟩ => rfl
    | ⟨1, _⟩ => exact Subsingleton.elim (α := Fin 1) _ _
  unfold Host.gather
  congr 1
  funext a
  refine Fin.ext ?_
  match a with
  | ⟨0, _⟩ =>
    show min (idx (gather_S129x8_S1023x1_S1023x8_1_0_n_n_0_1_18.siIdx (ix2 x h) _)).toInt.toNat 128 + 0 + 0 = _
    rw [hsi]
    rfl
  | ⟨1, _⟩ =>
    show 0 + 0 + h.val = h.val
    omega

/-- The row of the table at distance word `x`, as a word. -/
def rowWord (x : BitVec 32) : BitVec 32 :=
  let y := IntOp.addi (IntOp.minsi 64#32 (IntOp.maxsi 4294967232#32 (IntOp.addi (IntOp.subi x 767#32) 512#32))) 64#32
  Scalar.select (IntOp.cmpi .slt y 0#32) (IntOp.addi y 129#32) y

theorem rowWord_ofNat : ∀ x : Fin 1023, min (rowWord (BitVec.ofNat 32 x.val)).toInt.toNat 128 = min (x.val - 191) 128 := by
  decide +kernel

/-- A selection whose condition is a decided proposition's bit. -/
theorem select_eq {C : BitVec 1} {A B A' : EReal} {p : Prop} [Decidable p] (hC : C = if p then 1#1 else 0#1) (hA : p → A = A')
    (hB : B = ⊥) : Scalar.select C A B = if p then A' else ⊥ := by
  subst hC hB
  by_cases h : p
  · rw [if_pos h, if_pos h, hA h]; rfl
  · rw [if_neg h, if_neg h]; rfl

/-- The band's mask between a key and a query, as the host computes it. -/
theorem mask_word (j : Fin 768) (r : Fin 256) :
    IntOp.andi (IntOp.cmpi .sle (floorDiv64 (BitVec.ofNat 32 j.val)) (floorDiv64 (IntOp.addi 512#32 (BitVec.ofNat 32 r.val))))
      (IntOp.cmpi .sge (floorDiv64 (BitVec.ofNat 32 j.val)) (IntOp.subi (floorDiv64 (IntOp.addi 512#32 (BitVec.ofNat 32 r.val))) 8#32))
      = if 64 * (r.val / 64) ≤ j.val ∧ j.val < 64 * (r.val / 64) + 576 then 1#1 else 0#1 := by
  have ea : IntOp.addi 512#32 (BitVec.ofNat 32 r.val) = BitVec.ofNat 32 (512 + r.val) := by
    rw [show IntOp.addi 512#32 (BitVec.ofNat 32 r.val) = BitVec.ofNat 32 512 + BitVec.ofNat 32 r.val from rfl, ← BitVec.ofNat_add]
  have ej := floorDiv64_ofNat j
  have er := floorDiv64_ofNat ⟨512 + r.val, by omega⟩
  have h := inBand_word ⟨j.val / 64, by omega⟩ ⟨(512 + r.val) / 64, by omega⟩
  rw [ea, ej, er]
  refine h.trans (if_congr ?_ rfl rfl)
  dsimp only
  omega

variable (m : (ℓ : Loc nD τ sig) → Buf (Elt Ideal) ℓ) (c : Dev nD)
theorem bias_apply (h : Fin 8) (j : Fin 768) (r : Fin 256) :
    (V m c main_v46 : S8x768x256.Idx → EReal) (ix3 h j r) = bandBias (m ((c : Thread nD τ).loc main_arg3)) h j r := by
  unfold V
  simp only [List.flatten_cons, List.flatten_nil, List.append_nil, List.cons_append, List.nil_append,
    StableHlo.TRef.nullary, StableHlo.TRef.binary, StableHlo.TRef.ternary, StableHlo.TRef.unary, StableHlo.TRef.toBuf, StableHlo.TRef.ofBuf, cast_eq]
  after_results_simp
  pointwise
  have e : (r.val * 1023 + (255 + j.val)) % 1024 = 255 + j.val - r.val := by omega
  rw [dif_pos (by omega)]
  simp only [e, List.mem_singleton, reduceIte]
  have hx : Fin.rev (⟨255 + j.val - r.val, by omega⟩ : Fin 1023) = ⟨767 + r.val - j.val, by omega⟩ :=
    Fin.ext (by simp only [Fin.val_rev]; omega)
  refine select_eq (mask_word j r) (fun hp => (gather_apply _ _ _ _).trans ?_) (by simp [constant, Ideal.ofBits, Ideal.ieee])
  refine congrArg (m ((c : Thread nD τ).loc main_arg3))
    (congrArg₂ (fun (a : Fin 129) (b : Fin 8) => ix3 (0 : Fin 1) a b) (Fin.ext ?_) rfl)
  show min (BitVec.toInt _).toNat 128 = min (576 + r.val - j.val) 128
  rw [hx]
  pointwise
  exact (rowWord_ofNat ⟨767 + r.val - j.val, by omega⟩).trans (by dsimp only; congr 1; omega)

end Cert.KernelIdeal.Band
end
-- ==== Proof.BandLogits.lean ====
/- The band kernel's logits, read at an index: of each head, what its stored payload holds at (key, query). -/
module

public import proofs.«01_k».proof.Proof.Gen.KernelIdeal.Skeleton
public import Idealize.ShloMosaic.Lib.Pointwise

@[expose] public section

noncomputable section

namespace Cert.KernelIdeal.Band

open Idealize.ShloMosaic Cert.KernelIdeal Cert.KernelIdeal.Gen

/-- A head's logit: the product of key `j`'s and query `r`'s 64 lanes, from lane `o` of the keys, plus the head's bias. -/
def headLogit (K : FVec Ideal S768x512 .bf16) (q : Vec Ideal S1x64x256 .bf16) (b : Vec Ideal S1x768x256 .f32)
    (o : ℕ) (h : o + 64 ≤ 512) (j : Fin 768) (r : Fin 256) : EReal :=
  (∑ d : Fin 64, K (ix2 j ⟨o + d.val, by omega⟩) * q (ix3 (0 : Fin 1) d r)) + b (ix3 (0 : Fin 1) j r)

variable (K : FVec Ideal S768x512 .bf16) (q : Vec Ideal S1x64x256 .bf16) (b : Vec Ideal S1x768x256 .f32)
  (j : Fin 768) (r : Fin 256)

theorem logit0 (v0 v2 v4 : Vec Ideal S1x256x512 .bf16) :
    k0_pay6 v0 v2 v4 q b (ix3 (0 : Fin 1) j r) = headLogit (k0_pay3 v0 v2 v4) q b 0 (by decide) j r := by
  generalize hK : k0_pay3 v0 v2 v4 = K
  unfold k0_pay6
  rw [hK]
  pointwise [k0_pay5]
  simp only [mul_zero, Finset.sum_const_zero, add_zero, zero_add, headLogit, Nat.zero_add, ← Nat.add_assoc, Nat.reduceAdd]

theorem logit1 : k0_pay7 K k0_pay5 q b (ix3 (0 : Fin 1) j r) = headLogit K q b 64 (by decide) j r := by
  pointwise [k0_pay7, k0_pay5]
  simp only [mul_zero, Finset.sum_const_zero, add_zero, zero_add, headLogit, Nat.zero_add, ← Nat.add_assoc, Nat.reduceAdd]

theorem logit2 : k0_pay8 K k0_pay5 q b (ix3 (0 : Fin 1) j r) = headLogit K q b 128 (by decide) j r := by
  pointwise [k0_pay8, k0_pay5]
  simp only [mul_zero, Finset.sum_const_zero, add_zero, zero_add, headLogit, Nat.zero_add, ← Nat.add_assoc, Nat.reduceAdd]

theorem logit3 : k0_pay10 (k0_pay9 K k0_pay5 q b) (ix3 (0 : Fin 1) j r) = headLogit K q b 192 (by decide) j r := by
  pointwise [k0_pay10, k0_pay9, k0_pay5]
  simp only [mul_zero, Finset.sum_const_zero, add_zero, zero_add, headLogit, Nat.zero_add, ← Nat.add_assoc, Nat.reduceAdd]

theorem logit4 : k0_pay11 K k0_pay5 q b (ix3 (0 : Fin 1) j r) = headLogit K q b 256 (by decide) j r := by
  pointwise [k0_pay11, k0_pay5]
  simp only [mul_zero, Finset.sum_const_zero, add_zero, zero_add, headLogit, Nat.zero_add, ← Nat.add_assoc, Nat.reduceAdd]

theorem logit5 : k0_pay12 K k0_pay5 q b (ix3 (0 : Fin 1) j r) = headLogit K q b 320 (by decide) j r := by
  pointwise [k0_pay12, k0_pay5]
  simp only [mul_zero, Finset.sum_const_zero, add_zero, zero_add, headLogit, Nat.zero_add, ← Nat.add_assoc, Nat.reduceAdd]

theorem logit6 : k0_pay14 (k0_pay13 K k0_pay5 q) b (ix3 (0 : Fin 1) j r) = headLogit K q b 384 (by decide) j r := by
  pointwise [k0_pay14, k0_pay13, k0_pay5]
  simp only [mul_zero, Finset.sum_const_zero, add_zero, zero_add, headLogit, Nat.zero_add, ← Nat.add_assoc, Nat.reduceAdd]

theorem logit7 : k0_pay15 K k0_pay5 q b (ix3 (0 : Fin 1) j r) = headLogit K q b 448 (by decide) j r := by
  pointwise [k0_pay15, k0_pay5]
  simp only [mul_zero, Finset.sum_const_zero, add_zero, zero_add, headLogit, Nat.zero_add, ← Nat.add_assoc, Nat.reduceAdd]

/-- The three key blocks one under the other. -/
theorem keys_apply (v0 v2 v4 : Vec Ideal S1x256x512 .bf16) (l : Fin 512) :
    k0_pay3 v0 v2 v4 (ix2 j l) = if h : j.val < 256 then v0 (ix3 (0 : Fin 1) ⟨j.val, h⟩ l)
      else if h' : j.val - 256 < 256 then v2 (ix3 (0 : Fin 1) ⟨j.val - 256, h'⟩ l)
      else v4 (ix3 (0 : Fin 1) ⟨j.val - 256 - 256, by omega⟩ l) := by
  pointwise [k0_pay3]

end Cert.KernelIdeal.Band

end
-- ==== Proof.BandHeads.lean ====
/- The band kernel's output of each head, read at an index, from the head's logits. -/
module

public import proofs.«01_k».proof.Proof.Gen.KernelIdeal.Skeleton
public import Idealize.ShloMosaic.Lib.Pointwise

@[expose] public section

noncomputable section

namespace Cert.KernelIdeal.Band

open Idealize.ShloMosaic Cert.KernelIdeal Cert.KernelIdeal.Gen

/-- What a head's output holds at lane `d` and query `r`: the values (from lane `o`) weighted by the exponentials of the
    logits less their maximum, divided by the sum of the weights. -/
def headOut (V : FVec Ideal S512x768 .bf16) (s : Vec Ideal S1x768x256 .f32) (o : ℕ) (h : o + 64 ≤ 512) (d : Fin 64)
    (r : Fin 256) : EReal :=
  Ideal.div
    (∑ k : Fin 768, V (ix2 ⟨o + d.val, by omega⟩ k)
      * Ideal.exp (s (ix3 (0 : Fin 1) k r) - Finset.univ.sup fun k : Fin 768 => s (ix3 (0 : Fin 1) k r)))
    (∑ k : Fin 768, Ideal.exp (s (ix3 (0 : Fin 1) k r) - Finset.univ.sup fun k : Fin 768 => s (ix3 (0 : Fin 1) k r)))

/-- The maximum's start is `⊥`. -/
theorem ofBits_neg_inf : Ideal.ofBits .f32 0xFF800000#32 = ⊥ := by
  simp [Ideal.ofBits, Ideal.ieee]

theorem fold_max_bot {ι : Type} (s : Finset ι) (f : ι → EReal) : s.fold max ⊥ f = s.sup f := rfl

variable (V : FVec Ideal S512x768 .bf16) (s : Vec Ideal S1x768x256 .f32) (d : Fin 64) (r : Fin 256)

theorem out0 : k0_pay21 (k0_pay19 V) (k0_pay20 s) (ix3 (0 : Fin 1) d r) = headOut V s 0 (by decide) d r := by
  pointwise [k0_pay21, k0_pay19, k0_pay20, k0_pay18]
  simp only [show 64 + d.val < 128 by omega, show d.val < 128 by omega, dite_true, ofBits_neg_inf, fold_max_bot, headOut,
    Nat.zero_add, ← Nat.add_assoc, Nat.reduceAdd]

theorem out1 : k0_pay22 V k0_pay18 s (ix3 (0 : Fin 1) d r) = headOut V s 64 (by decide) d r := by
  pointwise [k0_pay22, k0_pay18]
  simp only [show 64 + d.val < 128 by omega, show d.val < 128 by omega, dite_true, ofBits_neg_inf, fold_max_bot, headOut,
    Nat.zero_add, ← Nat.add_assoc, Nat.reduceAdd]

theorem out2 : k0_pay26 (k0_pay24 V k0_pay18 s) (k0_pay25 V k0_pay18 s) (ix3 (0 : Fin 1) d r) = headOut V s 128 (by decide) d r := by
  pointwise [k0_pay26, k0_pay25, k0_pay24, k0_pay23, k0_pay18]
  simp only [show 64 + d.val < 128 by omega, show d.val < 128 by omega, dite_true, ofBits_neg_inf, fold_max_bot, headOut,
    Nat.zero_add, ← Nat.add_assoc, Nat.reduceAdd]

theorem out3 : k0_pay27 V k0_pay18 s (ix3 (0 : Fin 1) d r) = headOut V s 192 (by decide) d r := by
  pointwise [k0_pay27, k0_pay18]
  simp only [show 64 + d.val < 128 by omega, show d.val < 128 by omega, dite_true, ofBits_neg_inf, fold_max_bot, headOut,
    Nat.zero_add, ← Nat.add_assoc, Nat.reduceAdd]

theorem out4 : k0_pay29 (k0_pay28 V k0_pay18 s) (ix3 (0 : Fin 1) d r) = headOut V s 256 (by decide) d r := by
  pointwise [k0_pay29, k0_pay28, k0_pay18]
  simp only [show 64 + d.val < 128 by omega, show d.val < 128 by omega, dite_true, ofBits_neg_inf, fold_max_bot, headOut,
    Nat.zero_add, ← Nat.add_assoc, Nat.reduceAdd]

theorem out5 : k0_pay30 V k0_pay18 s (ix3 (0 : Fin 1) d r) = headOut V s 320 (by decide) d r := by
  pointwise [k0_pay30, k0_pay18]
  simp only [show 64 + d.val < 128 by omega, show d.val < 128 by omega, dite_true, ofBits_neg_inf, fold_max_bot, headOut,
    Nat.zero_add, ← Nat.add_assoc, Nat.reduceAdd]

theorem out6 : k0_pay1 (k0_pay31 V k0_pay18 s) (ix3 (0 : Fin 1) d r) = headOut V s 384 (by decide) d r := by
  pointwise [k0_pay1, k0_pay31, k0_pay18]
  simp only [show 64 + d.val < 128 by omega, show d.val < 128 by omega, dite_true, ofBits_neg_inf, fold_max_bot, headOut,
    Nat.zero_add, ← Nat.add_assoc, Nat.reduceAdd]

theorem out7 : k0_pay2 V k0_pay18 s (ix3 (0 : Fin 1) d r) = headOut V s 448 (by decide) d r := by
  pointwise [k0_pay2, k0_pay18]
  simp only [show 64 + d.val < 128 by omega, show d.val < 128 by omega, dite_true, ofBits_neg_inf, fold_max_bot, headOut,
    Nat.zero_add, ← Nat.add_assoc, Nat.reduceAdd]

/-- The three value blocks side by side. -/
theorem values_apply (v7 v9 v11 : Vec Ideal S1x512x256 .bf16) (l : Fin 512) (j : Fin 768) :
    k0_pay4 v7 v9 v11 (ix2 l j) = if h : j.val < 256 then v7 (ix3 (0 : Fin 1) l ⟨j.val, h⟩)
      else if h' : j.val - 256 < 256 then v9 (ix3 (0 : Fin 1) l ⟨j.val - 256, h'⟩)
      else v11 (ix3 (0 : Fin 1) l ⟨j.val - 256 - 256, by omega⟩) := by
  pointwise [k0_pay4]

end Cert.KernelIdeal.Band

end
-- ==== Proof.BandBlock.lean ====
/- What the band kernel's body leaves in its output block, as a function of the blocks it reads: one theorem per case of
   its two conditions (the first query block, the second, every other). -/
module

public import proofs.«01_k».proof.Proof.Gen.KernelIdeal.Value
public import proofs.«01_k».proof.Proof.BandLogits
public import proofs.«01_k».proof.Proof.BandHeads

@[expose] public section

noncomputable section

namespace Cert.KernelIdeal.Band

open Idealize.ShloMosaic Cert.KernelIdeal Cert.KernelIdeal.Gen

/-- The logits of all heads: head, key, query. -/
def logits (q : Vec Ideal S1x512x256 .bf16) (K : FVec Ideal S768x512 .bf16) (b : Vec Ideal S8x768x256 .f32) (h : Fin 8)
    (j : Fin 768) (r : Fin 256) : EReal :=
  (∑ d : Fin 64, K (ix2 j ⟨64 * h.val + d.val, by omega⟩) * q (ix3 (0 : Fin 1) ⟨64 * h.val + d.val, by omega⟩ r)) + b (ix3 h j r)

/-- The attention of a lane `l` and a query `r` over the 768 keys, from the logits of the lane's head. -/
def attend (s : Fin 8 → Fin 768 → Fin 256 → EReal) (V : FVec Ideal S512x768 .bf16) (l : Fin 512) (r : Fin 256) : EReal :=
  Ideal.div
    (∑ k : Fin 768, V (ix2 l k) * Ideal.exp (s ⟨l.val / 64, by omega⟩ k r - Finset.univ.sup fun k : Fin 768 => s ⟨l.val / 64, by omega⟩ k r))
    (∑ k : Fin 768, Ideal.exp (s ⟨l.val / 64, by omega⟩ k r - Finset.univ.sup fun k : Fin 768 => s ⟨l.val / 64, by omega⟩ k r))

/-- Logits of which the first `n` keys are masked. -/
def masked (n : ℕ) (s : Fin 8 → Fin 768 → Fin 256 → EReal) (h : Fin 8) (j : Fin 768) (r : Fin 256) : EReal :=
  if j.val < n then ⊥ else s h j r

theorem headLogit_eq (q : Vec Ideal S1x512x256 .bf16) (K : FVec Ideal S768x512 .bf16) (b : Vec Ideal S8x768x256 .f32)
    (h o : ℕ) (hh : h < 8) (ho : o = 64 * h) (ho' : o + 64 ≤ 512) (inbq : ∀ a, (![0, o, 0] : Fin 3 → ℕ) a + S1x64x256.size a ≤ S1x512x256.size a)
    (inbb : ∀ a, (![h, 0, 0] : Fin 3 → ℕ) a + S1x768x256.size a ≤ S8x768x256.size a) (j : Fin 768) (r : Fin 256) :
    headLogit K (View.ld q (Rect.unit (s := S1x512x256) ![0, o, 0] S1x64x256.size inbq))
      (View.ld b (Rect.unit (s := S8x768x256) ![h, 0, 0] S1x768x256.size inbb)) o ho' j r = logits q K b ⟨h, hh⟩ j r := by
  subst ho
  unfold headLogit logits
  pointwise

/-- The eight stores of the logits. -/
def logitPieces (q : Vec Ideal S1x512x256 .bf16) (v0 v2 v4 : Vec Ideal S1x256x512 .bf16) (b : Vec Ideal S8x768x256 .f32) :
    List (View.Piece (Elt Ideal) S8x768x256 .f32) :=
  [⟨Rect.unit ![7, 0, 0] S1x768x256.size inb_S8x768x256_S1x768x256_7_0_0, k0_pay15 (k0_pay3 v0 v2 v4) k0_pay5
      (View.ld q (Rect.unit ![0, 448, 0] S1x64x256.size inb_S1x512x256_S1x64x256_0_448_0)) (View.ld b (Rect.unit ![7, 0, 0] S1x768x256.size inb_S8x768x256_S1x768x256_7_0_0))⟩,
   ⟨Rect.unit ![6, 0, 0] S1x768x256.size inb_S8x768x256_S1x768x256_6_0_0, k0_pay14 (k0_pay13 (k0_pay3 v0 v2 v4) k0_pay5
      (View.ld q (Rect.unit ![0, 384, 0] S1x64x256.size inb_S1x512x256_S1x64x256_0_384_0))) (View.ld b (Rect.unit ![6, 0, 0] S1x768x256.size inb_S8x768x256_S1x768x256_6_0_0))⟩,
   ⟨Rect.unit ![5, 0, 0] S1x768x256.size inb_S8x768x256_S1x768x256_5_0_0, k0_pay12 (k0_pay3 v0 v2 v4) k0_pay5
      (View.ld q (Rect.unit ![0, 320, 0] S1x64x256.size inb_S1x512x256_S1x64x256_0_320_0)) (View.ld b (Rect.unit ![5, 0, 0] S1x768x256.size inb_S8x768x256_S1x768x256_5_0_0))⟩,
   ⟨Rect.unit ![4, 0, 0] S1x768x256.size inb_S8x768x256_S1x768x256_4_0_0, k0_pay11 (k0_pay3 v0 v2 v4) k0_pay5
      (View.ld q (Rect.unit ![0, 256, 0] S1x64x256.size inb_S1x512x256_S1x64x256_0_256_0)) (View.ld b (Rect.unit ![4, 0, 0] S1x768x256.size inb_S8x768x256_S1x768x256_4_0_0))⟩,
   ⟨Rect.unit ![3, 0, 0] S1x768x256.size inb_S8x768x256_S1x768x256_3_0_0, k0_pay10 (k0_pay9 (k0_pay3 v0 v2 v4) k0_pay5
      (View.ld q (Rect.unit ![0, 192, 0] S1x64x256.size inb_S1x512x256_S1x64x256_0_192_0)) (View.ld b (Rect.unit ![3, 0, 0] S1x768x256.size inb_S8x768x256_S1x768x256_3_0_0)))⟩,
   ⟨Rect.unit ![2, 0, 0] S1x768x256.size inb_S8x768x256_S1x768x256_2_0_0, k0_pay8 (k0_pay3 v0 v2 v4) k0_pay5
      (View.ld q (Rect.unit ![0, 128, 0] S1x64x256.size inb_S1x512x256_S1x64x256_0_128_0)) (View.ld b (Rect.unit ![2, 0, 0] S1x768x256.size inb_S8x768x256_S1x768x256_2_0_0))⟩,
   ⟨Rect.unit ![1, 0, 0] S1x768x256.size inb_S8x768x256_S1x768x256_1_0_0, k0_pay7 (k0_pay3 v0 v2 v4) k0_pay5
      (View.ld q (Rect.unit ![0, 64, 0] S1x64x256.size inb_S1x512x256_S1x64x256_0_64_0)) (View.ld b (Rect.unit ![1, 0, 0] S1x768x256.size inb_S8x768x256_S1x768x256_1_0_0))⟩,
   ⟨Rect.unit ![0, 0, 0] S1x768x256.size inb_S8x768x256_S1x768x256_0_0_0, k0_pay6 v0 v2 v4
      (View.ld q (Rect.unit ![0, 0, 0] S1x64x256.size inb_S1x512x256_S1x64x256_0_0_0)) (View.ld b (Rect.unit ![0, 0, 0] S1x768x256.size inb_S8x768x256_S1x768x256_0_0_0))⟩]

/-- An index whose first coordinate runs over one place only is named by the other two. -/
theorem exists_ix3_of_unit {a b : ℕ} (x : (⟨3, ![1, a, b]⟩ : Shape).Idx) :
    ∃ (j : Fin a) (r : Fin b), x = ix3 (0 : Fin 1) j r := by
  have h0 : (x 0 : ℕ) < 1 := (x 0).isLt
  refine ⟨x 1, x 2, ?_⟩
  funext a
  match a with
  | ⟨0, _⟩ => exact Fin.ext (by show (x 0 : ℕ) = 0; omega)
  | ⟨1, _⟩ => rfl
  | ⟨2, _⟩ => rfl

/-- A head's store agrees with a function of the scratch's index that agrees with it coordinate by coordinate. -/
theorem store_eq (h : ℕ) (hh : h < 8) (inb : ∀ a, (![h, 0, 0] : Fin 3 → ℕ) a + S1x768x256.size a ≤ S8x768x256.size a)
    (w : Vec Ideal S1x768x256 .f32) (G : Fin 8 → Fin 768 → Fin 256 → EReal)
    (hw : ∀ j r, w (ix3 (0 : Fin 1) j r) = G ⟨h, hh⟩ j r) (x : S1x768x256.Idx) :
    w x = (fun y : S8x768x256.Idx => G (y 0) (y 1) (y 2)) ((Rect.unit (s := S8x768x256) ![h, 0, 0] S1x768x256.size inb).emb x) := by
  obtain ⟨j, r, rfl⟩ : ∃ (j : Fin 768) (r : Fin 256), x = ix3 (0 : Fin 1) j r := exists_ix3_of_unit x
  rw [hw]
  dsimp only
  congr 1 <;> apply Fin.ext <;> simp [Rect.emb_apply, ix3]

theorem logitPieces_cover (q : Vec Ideal S1x512x256 .bf16) (v0 v2 v4 : Vec Ideal S1x256x512 .bf16) (b : Vec Ideal S8x768x256 .f32) :
    ∀ y : S8x768x256.Idx, ∃ p ∈ logitPieces q v0 v2 v4 b, y ∈ p.1.set :=
  View.cover_of_tiled _ S1x768x256.size (by rfl)

theorem logitPieces_canon (q : Vec Ideal S1x512x256 .bf16) (v0 v2 v4 : Vec Ideal S1x256x512 .bf16) (b : Vec Ideal S8x768x256 .f32)
    (y : S8x768x256.Idx) : View.canon (logitPieces q v0 v2 v4 b) y = logits q (k0_pay3 v0 v2 v4) b (y 0) (y 1) (y 2) := by
  refine View.canon_apply_of_pieces (fun y : S8x768x256.Idx => logits q (k0_pay3 v0 v2 v4) b (y 0) (y 1) (y 2)) _ ?_ y
    (logitPieces_cover q v0 v2 v4 b y)
  intro p hp x
  simp only [logitPieces, List.mem_cons, List.not_mem_nil, or_false] at hp
  rcases hp with rfl | rfl | rfl | rfl | rfl | rfl | rfl | rfl
  · exact store_eq 7 (by decide) inb_S8x768x256_S1x768x256_7_0_0 _ _ (fun j r => (logit7 ..).trans (headLogit_eq _ _ _ 7 _ (by decide) rfl _ _ _ j r)) x
  · exact store_eq 6 (by decide) inb_S8x768x256_S1x768x256_6_0_0 _ _ (fun j r => (logit6 ..).trans (headLogit_eq _ _ _ 6 _ (by decide) rfl _ _ _ j r)) x
  · exact store_eq 5 (by decide) inb_S8x768x256_S1x768x256_5_0_0 _ _ (fun j r => (logit5 ..).trans (headLogit_eq _ _ _ 5 _ (by decide) rfl _ _ _ j r)) x
  · exact store_eq 4 (by decide) inb_S8x768x256_S1x768x256_4_0_0 _ _ (fun j r => (logit4 ..).trans (headLogit_eq _ _ _ 4 _ (by decide) rfl _ _ _ j r)) x
  · exact store_eq 3 (by decide) inb_S8x768x256_S1x768x256_3_0_0 _ _ (fun j r => (logit3 ..).trans (headLogit_eq _ _ _ 3 _ (by decide) rfl _ _ _ j r)) x
  · exact store_eq 2 (by decide) inb_S8x768x256_S1x768x256_2_0_0 _ _ (fun j r => (logit2 ..).trans (headLogit_eq _ _ _ 2 _ (by decide) rfl _ _ _ j r)) x
  · exact store_eq 1 (by decide) inb_S8x768x256_S1x768x256_1_0_0 _ _ (fun j r => (logit1 ..).trans (headLogit_eq _ _ _ 1 _ (by decide) rfl _ _ _ j r)) x
  · exact store_eq 0 (by decide) inb_S8x768x256_S1x768x256_0_0_0 _ _ (fun j r => (logit0 ..).trans (headLogit_eq _ _ _ 0 _ (by decide) rfl _ _ _ j r)) x

/-- The mask's name stands for `⊥`. -/
theorem mask_eq : (Named.named κ "mask" 0xF149F2CA#32 : Ideal .f32) = ⊥ := IdealRules.named_const.ideal_named_scalar _ _ _ _ rfl

/-- A head's output store agrees with `attend` at the store's place in the block. -/
theorem headOut_eq (V : FVec Ideal S512x768 .bf16) (S : Fin 8 → Fin 768 → Fin 256 → EReal) (h o : ℕ) (hh : h < 8) (ho : o = 64 * h)
    (ho' : o + 64 ≤ 512) (s : Vec Ideal S1x768x256 .f32) (hs : ∀ j r, s (ix3 (0 : Fin 1) j r) = S ⟨h, hh⟩ j r)
    (w : Vec Ideal S1x64x256 .bf16) (hw : ∀ d r, w (ix3 (0 : Fin 1) d r) = headOut V s o ho' d r)
    (inb : ∀ a, (![0, o, 0] : Fin 3 → ℕ) a + S1x64x256.size a ≤ S1x512x256.size a) (x : S1x64x256.Idx) :
    w x = (fun y : S1x512x256.Idx => attend S V (y 1) (y 2)) ((Rect.unit (s := S1x512x256) ![0, o, 0] S1x64x256.size inb).emb x) := by
  obtain ⟨d, r, rfl⟩ : ∃ (d : Fin 64) (r : Fin 256), x = ix3 (0 : Fin 1) d r := exists_ix3_of_unit x
  have e1 : (Rect.unit (s := S1x512x256) ![0, o, 0] S1x64x256.size inb).emb (ix3 (0 : Fin 1) d r) 1 = (⟨o + d.val, by omega⟩ : Fin 512) := by
    apply Fin.ext; simp [Rect.emb_apply, ix3]
  have e2 : (Rect.unit (s := S1x512x256) ![0, o, 0] S1x64x256.size inb).emb (ix3 (0 : Fin 1) d r) 2 = r := by
    apply Fin.ext; simp [Rect.emb_apply, ix3]
  have e3 : (⟨(o + d.val) / 64, by omega⟩ : Fin 8) = ⟨h, hh⟩ := Fin.ext (by show (o + d.val) / 64 = h; omega)
  dsimp only
  rw [e1, e2, hw]
  unfold headOut attend
  simp only [hs, e3]

/-- The eight stores of the output block, of the values `V` and the heads' logits `s`. -/
def outPieces (V : FVec Ideal S512x768 .bf16) (s : Fin 8 → Vec Ideal S1x768x256 .f32) : List (View.Piece (Elt Ideal) S1x512x256 .bf16) :=
  [⟨Rect.unit ![0, 448, 0] S1x64x256.size inb_S1x512x256_S1x64x256_0_448_0, k0_pay2 V k0_pay18 (s 7)⟩,
   ⟨Rect.unit ![0, 384, 0] S1x64x256.size inb_S1x512x256_S1x64x256_0_384_0, k0_pay1 (k0_pay31 V k0_pay18 (s 6))⟩,
   ⟨Rect.unit ![0, 320, 0] S1x64x256.size inb_S1x512x256_S1x64x256_0_320_0, k0_pay30 V k0_pay18 (s 5)⟩,
   ⟨Rect.unit ![0, 256, 0] S1x64x256.size inb_S1x512x256_S1x64x256_0_256_0, k0_pay29 (k0_pay28 V k0_pay18 (s 4))⟩,
   ⟨Rect.unit ![0, 192, 0] S1x64x256.size inb_S1x512x256_S1x64x256_0_192_0, k0_pay27 V k0_pay18 (s 3)⟩,
   ⟨Rect.unit ![0, 128, 0] S1x64x256.size inb_S1x512x256_S1x64x256_0_128_0, k0_pay26 (k0_pay24 V k0_pay18 (s 2)) (k0_pay25 V k0_pay18 (s 2))⟩,
   ⟨Rect.unit ![0, 64, 0] S1x64x256.size inb_S1x512x256_S1x64x256_0_64_0, k0_pay22 V k0_pay18 (s 1)⟩,
   ⟨Rect.unit ![0, 0, 0] S1x64x256.size inb_S1x512x256_S1x64x256_0_0_0, k0_pay21 (k0_pay19 V) (k0_pay20 (s 0))⟩]

theorem outPieces_cover (V : FVec Ideal S512x768 .bf16) (s : Fin 8 → Vec Ideal S1x768x256 .f32) :
    ∀ y : S1x512x256.Idx, ∃ p ∈ outPieces V s, y ∈ p.1.set :=
  View.cover_of_tiled _ S1x64x256.size (by rfl)

theorem outPieces_canon (V : FVec Ideal S512x768 .bf16) (S : Fin 8 → Fin 768 → Fin 256 → EReal) (s : Fin 8 → Vec Ideal S1x768x256 .f32)
    (hs : ∀ h j r, s h (ix3 (0 : Fin 1) j r) = S h j r) (y : S1x512x256.Idx) :
    View.canon (outPieces V s) y = attend S V (y 1) (y 2) := by
  refine View.canon_apply_of_pieces (fun y : S1x512x256.Idx => attend S V (y 1) (y 2)) _ ?_ y
    (outPieces_cover V s y)
  intro p hp x
  simp only [outPieces, List.mem_cons, List.not_mem_nil, or_false] at hp
  rcases hp with rfl | rfl | rfl | rfl | rfl | rfl | rfl | rfl
  · exact headOut_eq V S 7 448 (by decide) rfl (by decide) (s 7) (hs 7) _ (out7 V (s 7)) inb_S1x512x256_S1x64x256_0_448_0 x
  · exact headOut_eq V S 6 384 (by decide) rfl (by decide) (s 6) (hs 6) _ (out6 V (s 6)) inb_S1x512x256_S1x64x256_0_384_0 x
  · exact headOut_eq V S 5 320 (by decide) rfl (by decide) (s 5) (hs 5) _ (out5 V (s 5)) inb_S1x512x256_S1x64x256_0_320_0 x
  · exact headOut_eq V S 4 256 (by decide) rfl (by decide) (s 4) (hs 4) _ (out4 V (s 4)) inb_S1x512x256_S1x64x256_0_256_0 x
  · exact headOut_eq V S 3 192 (by decide) rfl (by decide) (s 3) (hs 3) _ (out3 V (s 3)) inb_S1x512x256_S1x64x256_0_192_0 x
  · exact headOut_eq V S 2 128 (by decide) rfl (by decide) (s 2) (hs 2) _ (out2 V (s 2)) inb_S1x512x256_S1x64x256_0_128_0 x
  · exact headOut_eq V S 1 64 (by decide) rfl (by decide) (s 1) (hs 1) _ (out1 V (s 1)) inb_S1x512x256_S1x64x256_0_64_0 x
  · exact headOut_eq V S 0 0 (by decide) rfl (by decide) (s 0) (hs 0) _ (out0 V (s 0)) inb_S1x512x256_S1x64x256_0_0_0 x

/-- The head's slab lies in the scratch. -/
theorem inb_head (h : Fin 8) : ∀ a, (![h.val, 0, 0] : Fin 3 → ℕ) a + S1x768x256.size a ≤ S8x768x256.size a := by
  intro a
  match a with
  | ⟨0, _⟩ => show h.val + 1 ≤ 8; omega
  | ⟨1, _⟩ => exact le_refl _
  | ⟨2, _⟩ => exact le_refl _

/-- What a load of a head's slab reads of a scratch whose writes cover it and leave `G`. -/
theorem readCov_head {sp : Space} (v : View sig .tc sp S8x768x256 .f32) (L : List (View.Piece (Elt Ideal) S8x768x256 .f32))
    (hcov : ∀ y, ∃ p ∈ L, y ∈ p.1.set) (G : Fin 8 → Fin 768 → Fin 256 → EReal)
    (hL : ∀ y : S8x768x256.Idx, View.canon L y = G (y 0) (y 1) (y 2)) (h : Fin 8) (j : Fin 768) (r : Fin 256) :
    v.readCov L (Rect.unit (s := S8x768x256) ![h.val, 0, 0] S1x768x256.size (inb_head h)).toLoadRect (ix3 (0 : Fin 1) j r) = G h j r := by
  rw [View.readCov_eq_canon v L _ (fun j => hcov _)]
  dsimp only
  rw [hL]
  congr 1 <;> apply Fin.ext <;> simp [LoadRect.idx, ix3]

/-- A store of the mask over the first `n` keys of every head, above other stores. -/
theorem canon_mask (n : ℕ) (sz : Fin 3 → ℕ) (h0 : sz 0 = 8) (h1 : sz 1 = n) (h2 : sz 2 = 256)
    (inb : ∀ a, (![0, 0, 0] : Fin 3 → ℕ) a + sz a ≤ S8x768x256.size a)
    (w : (Rect.unit (s := S8x768x256) ![0, 0, 0] sz inb).shape.Idx → Elt Ideal .f32) (hw : ∀ x, w x = (⊥ : EReal))
    (L : List (View.Piece (Elt Ideal) S8x768x256 .f32)) (G : Fin 8 → Fin 768 → Fin 256 → EReal)
    (hL : ∀ y : S8x768x256.Idx, View.canon L y = G (y 0) (y 1) (y 2)) (y : S8x768x256.Idx) :
    View.canon ((⟨Rect.unit (s := S8x768x256) ![0, 0, 0] sz inb, w⟩ : View.Piece (Elt Ideal) S8x768x256 .f32) :: L) y
      = masked n G (y 0) (y 1) (y 2) := by
  have hmem : y ∈ (Rect.unit (s := S8x768x256) ![0, 0, 0] sz inb).set ↔ (y 1 : ℕ) < n := by
    rw [Rect.mem_set_unit]
    constructor
    · intro H
      have h := (H 1).2
      have e : (![0, 0, 0] : Fin 3 → ℕ) 1 = 0 := rfl
      omega
    · intro H a
      match a with
      | ⟨0, _⟩ => exact ⟨Nat.zero_le _, by have : (y 0 : ℕ) < 8 := (y 0).isLt; show (y 0 : ℕ) < 0 + sz 0; omega⟩
      | ⟨1, _⟩ => exact ⟨Nat.zero_le _, by show (y 1 : ℕ) < 0 + sz 1; omega⟩
      | ⟨2, _⟩ => exact ⟨Nat.zero_le _, by have : (y 2 : ℕ) < 256 := (y 2).isLt; show (y 2 : ℕ) < 0 + sz 2; omega⟩
  unfold masked
  by_cases h : (y 1 : ℕ) < n
  · rw [if_pos h]
    have hm := hmem.mpr h
    generalize Rect.unit (s := S8x768x256) ![0, 0, 0] sz inb = R at w hw hm
    obtain ⟨x, rfl⟩ : ∃ x, R.emb x = y := by
      rw [← R.map_emb_univ] at hm
      simpa using hm
    exact (View.canon_cons_emb ..).trans (hw x)
  · rw [if_neg h, ← hL]
    exact View.canon_cons_of_not_mem _ _ (fun hm => h (hmem.mp hm))

theorem mask512_apply (x : S8x512x256.Idx) : k0_pay16 (F := Ideal) x = (⊥ : EReal) := by
  unfold k0_pay16; rw [shapeCast_self]; exact mask_eq

theorem mask256_apply (x : S8x256x256.Idx) : k0_pay17 (F := Ideal) x = (⊥ : EReal) := by
  unfold k0_pay17; rw [shapeCast_self]; exact mask_eq

theorem hz3 : (![0, 0, 0] : Fin 3 → Nat) = fun _ => 0 := funext fun a => by fin_cases a <;> rfl

end Cert.KernelIdeal.Band

end
-- ==== Proof.BandCases.lean ====
module

public import proofs.«01_k».proof.Proof.BandBlock
public import proofs.«01_k».proof.Proof.Gen.KernelIdeal.Frame

/-!
# The attention block in each of the kernel's three cases
-/

@[expose] public section
noncomputable section

namespace Cert.KernelIdeal.Band

open Idealize.ShloMosaic Cert.KernelIdeal.Gen

/-- The scratch's stores where 512 keys are masked. -/
def pieces512 (q : Vec Ideal S1x512x256 .bf16) (v0 v2 v4 : Vec Ideal S1x256x512 .bf16) (b : Vec Ideal S8x768x256 .f32) :
    List (View.Piece (Elt Ideal) S8x768x256 .f32) :=
  ⟨Rect.unit ![0, 0, 0] S8x512x256.size inb_S8x768x256_S8x512x256_0_0_0, k0_pay16 (F := Ideal)⟩ :: logitPieces q v0 v2 v4 b

/-- The scratch's stores where 256 keys are masked. -/
def pieces256 (q : Vec Ideal S1x512x256 .bf16) (v0 v2 v4 : Vec Ideal S1x256x512 .bf16) (b : Vec Ideal S8x768x256 .f32) :
    List (View.Piece (Elt Ideal) S8x768x256 .f32) :=
  ⟨Rect.unit ![0, 0, 0] S8x256x256.size inb_S8x768x256_S8x256x256_0_0_0, k0_pay17 (F := Ideal)⟩ :: logitPieces q v0 v2 v4 b

section
variable (q : Vec Ideal S1x512x256 .bf16) (v0 v2 v4 : Vec Ideal S1x256x512 .bf16) (b : Vec Ideal S8x768x256 .f32)

theorem pieces512_cover : ∀ y : S8x768x256.Idx, ∃ p ∈ pieces512 q v0 v2 v4 b, y ∈ p.1.set :=
  fun y => (logitPieces_cover q v0 v2 v4 b y).imp fun _ h => ⟨List.mem_cons_of_mem _ h.1, h.2⟩

theorem pieces256_cover : ∀ y : S8x768x256.Idx, ∃ p ∈ pieces256 q v0 v2 v4 b, y ∈ p.1.set :=
  fun y => (logitPieces_cover q v0 v2 v4 b y).imp fun _ h => ⟨List.mem_cons_of_mem _ h.1, h.2⟩

theorem pieces512_canon (y : S8x768x256.Idx) :
    View.canon (pieces512 q v0 v2 v4 b) y = masked 512 (logits q (k0_pay3 v0 v2 v4) b) (y 0) (y 1) (y 2) :=
  canon_mask 512 S8x512x256.size rfl rfl rfl inb_S8x768x256_S8x512x256_0_0_0 (k0_pay16 (F := Ideal)) mask512_apply
    (logitPieces q v0 v2 v4 b) (logits q (k0_pay3 v0 v2 v4) b) (logitPieces_canon q v0 v2 v4 b) y

theorem pieces256_canon (y : S8x768x256.Idx) :
    View.canon (pieces256 q v0 v2 v4 b) y = masked 256 (logits q (k0_pay3 v0 v2 v4) b) (y 0) (y 1) (y 2) :=
  canon_mask 256 S8x256x256.size rfl rfl rfl inb_S8x768x256_S8x256x256_0_0_0 (k0_pay17 (F := Ideal)) mask256_apply
    (logitPieces q v0 v2 v4 b) (logits q (k0_pay3 v0 v2 v4) b) (logitPieces_canon q v0 v2 v4 b) y

theorem masked_zero (s : Fin 8 → Fin 768 → Fin 256 → EReal) : masked 0 s = s := by
  funext h j r
  exact if_neg (Nat.not_lt_zero _)

end

/-- The heads' logits as the softmax loads them. -/
def loaded (v : Memref sig .tc .vmem S8x768x256 .f32) (L : List (View.Piece (Elt Ideal) S8x768x256 .f32)) (h : Fin 8) :
    Vec Ideal S1x768x256 .f32 :=
  v.view.readCov L (Rect.unit (s := S8x768x256) ![h.val, 0, 0] S1x768x256.size (inb_head h)).toLoadRect

theorem canon_loaded (v : Memref sig .tc .vmem S8x768x256 .f32) (L : List (View.Piece (Elt Ideal) S8x768x256 .f32))
    (hcov : ∀ y, ∃ p ∈ L, y ∈ p.1.set) (G : Fin 8 → Fin 768 → Fin 256 → EReal)
    (hL : ∀ y : S8x768x256.Idx, View.canon L y = G (y 0) (y 1) (y 2)) (V : FVec Ideal S512x768 .bf16) (y : S1x512x256.Idx) :
    View.canon (outPieces V (loaded v L)) y = attend G V (y 1) (y 2) :=
  outPieces_canon V G (loaded v L) (readCov_head v.view L hcov G hL) y

variable (c : Dev nD) (i : grid0.Coords) (a2 : Memref sig .tc .vmem S1x512x256 .bf16) (h2 : a2.IsWhole)
  (a3 : Memref sig .tc .vmem S1x256x512 .bf16) (h3 : a3.IsWhole) (a4 : Memref sig .tc .vmem S1x256x512 .bf16) (h4 : a4.IsWhole)
  (a5 : Memref sig .tc .vmem S1x256x512 .bf16) (h5 : a5.IsWhole) (a6 : Memref sig .tc .vmem S1x512x256 .bf16) (h6 : a6.IsWhole)
  (a7 : Memref sig .tc .vmem S1x512x256 .bf16) (h7 : a7.IsWhole) (a8 : Memref sig .tc .vmem S1x512x256 .bf16) (h8 : a8.IsWhole)
  (a9 : Memref sig .tc .vmem S8x768x256 .f32) (h9 : a9.IsWhole) (a10 : Memref sig .tc .vmem S1x512x256 .bf16) (h10 : a10.IsWhole)
  (a11 : Memref sig .tc .vmem S8x768x256 .f32) (h11 : a11.IsWhole)
  (x0 : Vec Ideal S1x512x256 .bf16) (x1 x2 x3 : Vec Ideal S1x256x512 .bf16) (x4 x5 x6 : Vec Ideal S1x512x256 .bf16)
  (x7 : Vec Ideal S8x768x256 .f32) (y : S1x512x256.Idx)

/-- The first query block: keys before the sequence (512 of them) are masked. -/
theorem out_A (hc0 : cond0_0 i) (hc1 : ¬cond0_1 i) :
    out0_A_8 c i a2 h2 a3 h3 a4 h4 a5 h5 a6 h6 a7 h7 a8 h8 a9 h9 a10 h10 a11 h11 hc0 hc1 x0 x1 x2 x3 x4 x5 x6 x7 y
      = attend (masked 512 (logits x0 (k0_pay3 x1 x2 x3) x7)) (k0_pay4 x4 x5 x6) (y 1) (y 2) := by
  unfold out0_A_8
  rw [View.read_writes_eq_canon _ _ _ (cover0_A_8 c i a2 h2 a3 h3 a4 h4 a5 h5 a6 h6 a7 h7 a8 h8 a9 h9 a10 h10 a11 h11 hc0 hc1 x0 x1 x2 x3 x4 x5 x6 x7)]
  unfold kernelRun0_A
  dsimp only
  sl_unfold_words
  simp only [View.readAt_eq_ld, h2.read_unread, h3.read_unread, h4.read_unread, h5.read_unread, h6.read_unread, h7.read_unread,
    h8.read_unread, h9.read_unread, View.ld_unit_zero (S := S1x256x512) hz3, View.ld_unit_zero (S := S1x512x256) hz3]
  refine Eq.trans ?_ (canon_loaded a11 (pieces512 x0 x1 x2 x3 x7) (pieces512_cover x0 x1 x2 x3 x7) _ (pieces512_canon x0 x1 x2 x3 x7)
    (k0_pay4 x4 x5 x6) y)
  rfl

/-- The second query block: 256 keys are masked. -/
theorem out_B (hc0 : ¬cond0_0 i) (hc1 : cond0_1 i) :
    out0_B_8 c i a2 h2 a3 h3 a4 h4 a5 h5 a6 h6 a7 h7 a8 h8 a9 h9 a10 h10 a11 h11 hc0 hc1 x0 x1 x2 x3 x4 x5 x6 x7 y
      = attend (masked 256 (logits x0 (k0_pay3 x1 x2 x3) x7)) (k0_pay4 x4 x5 x6) (y 1) (y 2) := by
  unfold out0_B_8
  rw [View.read_writes_eq_canon _ _ _ (cover0_B_8 c i a2 h2 a3 h3 a4 h4 a5 h5 a6 h6 a7 h7 a8 h8 a9 h9 a10 h10 a11 h11 hc0 hc1 x0 x1 x2 x3 x4 x5 x6 x7)]
  unfold kernelRun0_B
  dsimp only
  sl_unfold_words
  simp only [View.readAt_eq_ld, h2.read_unread, h3.read_unread, h4.read_unread, h5.read_unread, h6.read_unread, h7.read_unread,
    h8.read_unread, h9.read_unread, View.ld_unit_zero (S := S1x256x512) hz3, View.ld_unit_zero (S := S1x512x256) hz3]
  refine Eq.trans ?_ (canon_loaded a11 (pieces256 x0 x1 x2 x3 x7) (pieces256_cover x0 x1 x2 x3 x7) _ (pieces256_canon x0 x1 x2 x3 x7)
    (k0_pay4 x4 x5 x6) y)
  rfl

/-- Every other query block: no key is masked. -/
theorem out_C (hc0 : ¬cond0_0 i) (hc1 : ¬cond0_1 i) :
    out0_C_8 c i a2 h2 a3 h3 a4 h4 a5 h5 a6 h6 a7 h7 a8 h8 a9 h9 a10 h10 a11 h11 hc0 hc1 x0 x1 x2 x3 x4 x5 x6 x7 y
      = attend (logits x0 (k0_pay3 x1 x2 x3) x7) (k0_pay4 x4 x5 x6) (y 1) (y 2) := by
  unfold out0_C_8
  rw [View.read_writes_eq_canon _ _ _ (cover0_C_8 c i a2 h2 a3 h3 a4 h4 a5 h5 a6 h6 a7 h7 a8 h8 a9 h9 a10 h10 a11 h11 hc0 hc1 x0 x1 x2 x3 x4 x5 x6 x7)]
  unfold kernelRun0_C
  dsimp only
  sl_unfold_words
  simp only [View.readAt_eq_ld, h2.read_unread, h3.read_unread, h4.read_unread, h5.read_unread, h6.read_unread, h7.read_unread,
    h8.read_unread, h9.read_unread, View.ld_unit_zero (S := S1x256x512) hz3, View.ld_unit_zero (S := S1x512x256) hz3]
  refine Eq.trans ?_ (canon_loaded a11 (logitPieces x0 x1 x2 x3 x7) (logitPieces_cover x0 x1 x2 x3 x7) _ (logitPieces_canon x0 x1 x2 x3 x7)
    (k0_pay4 x4 x5 x6) y)
  rfl

end Cert.KernelIdeal.Band

end
-- ==== Proof.BandArray.lean ====
/- The band kernel's result array, element by element, as a function of the program's arguments. -/
module

public import proofs.«01_k».proof.Proof.BandBias
public import proofs.«01_k».proof.Proof.BandCases

@[expose] public section

noncomputable section

namespace Cert.KernelIdeal.Band

open Idealize.ShloMosaic Idealize.ShloMosaic.TcCoe Cert.KernelIdeal Cert.KernelIdeal.Gen Cert.KernelIdeal.Value

/-- The sequence row that key `j` of query block `i` is read from: three blocks of 256 rows, the last of them block `i`, each kept
    from running before the sequence's start. -/
def keyRow (i j : ℕ) : ℕ := 256 * (i - (2 - j / 256)) + j % 256

theorem keyRow_lt {i j : ℕ} (hi : i < 16) : keyRow i j < 4096 := by
  unfold keyRow; omega

/-- The masked logit of head `h`, between the query at `x` and key `j` of its block's 768. -/
def score (Q : S4x512x4096.Idx → EReal) (K : S4x4096x512.Idx → EReal) (T : Vec Ideal S1x129x8 .f32) (b : Fin 4) (h : Fin 8)
    (x : Fin 4096) (j : Fin 768) : EReal :=
  if 256 * (x.val / 256) + j.val < 512 then ⊥
  else (∑ d : Fin 64, K (ix3 b ⟨keyRow (x.val / 256) j.val, keyRow_lt (by omega)⟩ ⟨64 * h.val + d.val, by omega⟩)
      * Q (ix3 b ⟨64 * h.val + d.val, by omega⟩ x)) + bandBias T h j ⟨x.val % 256, by omega⟩

/-- Lane `l` of the value that goes with key `j` of the query at `x`. -/
def value (V : S4x512x4096.Idx → EReal) (b : Fin 4) (l : Fin 512) (x : Fin 4096) (j : Fin 768) : EReal :=
  V (ix3 b l ⟨keyRow (x.val / 256) j.val, keyRow_lt (by omega)⟩)

/-- The kernel's result: attention over the 768 keys. -/
def bandResult (Q : S4x512x4096.Idx → EReal) (K : S4x4096x512.Idx → EReal) (V : S4x512x4096.Idx → EReal) (T : Vec Ideal S1x129x8 .f32)
    (b : Fin 4) (l : Fin 512) (x : Fin 4096) : EReal :=
  Ideal.div
    (∑ k : Fin 768, value V b l x k * Ideal.exp (score Q K T b ⟨l.val / 64, by omega⟩ x k
      - Finset.univ.sup fun k : Fin 768 => score Q K T b ⟨l.val / 64, by omega⟩ x k))
    (∑ k : Fin 768, Ideal.exp (score Q K T b ⟨l.val / 64, by omega⟩ x k
      - Finset.univ.sup fun k : Fin 768 => score Q K T b ⟨l.val / 64, by omega⟩ x k))

variable (m : (ℓ : Loc nD τ sig) → Buf (Elt Ideal) ℓ) (c : Dev nD)

theorem index_q : ∀ t : Fin grid0.N, win0_0.index t 0 = t.val / 16 ∧ win0_0.index t 1 = 0 ∧ win0_0.index t 2 = t.val % 16 := by decide +kernel
theorem index_k0 : ∀ t : Fin grid0.N, win0_1.index t 0 = t.val / 16 ∧ win0_1.index t 1 = t.val % 16 - 2 ∧ win0_1.index t 2 = 0 := by decide +kernel
theorem index_k1 : ∀ t : Fin grid0.N, win0_2.index t 0 = t.val / 16 ∧ win0_2.index t 1 = t.val % 16 - 1 ∧ win0_2.index t 2 = 0 := by decide +kernel
theorem index_k2 : ∀ t : Fin grid0.N, win0_3.index t 0 = t.val / 16 ∧ win0_3.index t 1 = t.val % 16 ∧ win0_3.index t 2 = 0 := by decide +kernel
theorem index_v0 : ∀ t : Fin grid0.N, win0_4.index t 0 = t.val / 16 ∧ win0_4.index t 1 = 0 ∧ win0_4.index t 2 = t.val % 16 - 2 := by decide +kernel
theorem index_v1 : ∀ t : Fin grid0.N, win0_5.index t 0 = t.val / 16 ∧ win0_5.index t 1 = 0 ∧ win0_5.index t 2 = t.val % 16 - 1 := by decide +kernel
theorem index_v2 : ∀ t : Fin grid0.N, win0_6.index t 0 = t.val / 16 ∧ win0_6.index t 1 = 0 ∧ win0_6.index t 2 = t.val % 16 := by decide +kernel
theorem index_b : ∀ t : Fin grid0.N, win0_7.index t 0 = 0 ∧ win0_7.index t 1 = 0 ∧ win0_7.index t 2 = 0 := by decide +kernel
theorem index_o : ∀ t : Fin grid0.N, win0_8.index t 0 = t.val / 16 ∧ win0_8.index t 1 = 0 ∧ win0_8.index t 2 = t.val % 16 := by decide +kernel

theorem batch_lt (t : Fin cfg0.N) : t.val / 16 < 4 := by
  have hN : cfg0.N = 64 := N_0
  have := t.isLt
  omega

theorem block_q (t : Fin cfg0.N) (l : Fin 512) (r : Fin 256) :
    (iblk m c 0 t : Vec Ideal S1x512x256 .bf16) (ix3 (0 : Fin 1) l r)
      = m ((c : Thread nD τ).loc main_arg0) (ix3 (⟨t.val / 16, batch_lt t⟩ : Fin 4) l (⟨256 * (t.val % 16) + r.val, by omega⟩ : Fin 4096)) := by
  have hi := index_q t
  unfold iblk
  rw [View.read_apply]
  show V m c main_arg0 _ = _
  rw [V_main_arg0]
  congr 1
  funext a
  apply Fin.ext
  match a with
  | ⟨0, _⟩ => show win0_0.index t 0 * 1 + 1 * 0 = t.val / 16; rw [hi.1]; omega
  | ⟨1, _⟩ => show win0_0.index t 1 * 512 + 1 * l.val = l.val; rw [hi.2.1]; omega
  | ⟨2, _⟩ => show win0_0.index t 2 * 256 + 1 * r.val = 256 * (t.val % 16) + r.val; rw [hi.2.2]; omega

theorem block_k0 (t : Fin cfg0.N) (j : Fin 256) (l : Fin 512) :
    (iblk m c 1 t : Vec Ideal S1x256x512 .bf16) (ix3 (0 : Fin 1) j l)
      = m ((c : Thread nD τ).loc main_arg1) (ix3 (⟨t.val / 16, batch_lt t⟩ : Fin 4) (⟨256 * (t.val % 16 - 2) + j.val, by omega⟩ : Fin 4096) l) := by
  have hi := index_k0 t
  unfold iblk
  rw [View.read_apply]
  show V m c main_arg1 _ = _
  rw [V_main_arg1]
  congr 1
  funext a
  apply Fin.ext
  match a with
  | ⟨0, _⟩ => show win0_1.index t 0 * 1 + 1 * 0 = t.val / 16; rw [hi.1]; omega
  | ⟨1, _⟩ => show win0_1.index t 1 * 256 + 1 * j.val = 256 * (t.val % 16 - 2) + j.val; rw [hi.2.1]; omega
  | ⟨2, _⟩ => show win0_1.index t 2 * 512 + 1 * l.val = l.val; rw [hi.2.2]; omega

theorem block_k1 (t : Fin cfg0.N) (j : Fin 256) (l : Fin 512) :
    (iblk m c 2 t : Vec Ideal S1x256x512 .bf16) (ix3 (0 : Fin 1) j l)
      = m ((c : Thread nD τ).loc main_arg1) (ix3 (⟨t.val / 16, batch_lt t⟩ : Fin 4) (⟨256 * (t.val % 16 - 1) + j.val, by omega⟩ : Fin 4096) l) := by
  have hi := index_k1 t
  unfold iblk
  rw [View.read_apply]
  show V m c main_arg1 _ = _
  rw [V_main_arg1]
  congr 1
  funext a
  apply Fin.ext
  match a with
  | ⟨0, _⟩ => show win0_2.index t 0 * 1 + 1 * 0 = t.val / 16; rw [hi.1]; omega
  | ⟨1, _⟩ => show win0_2.index t 1 * 256 + 1 * j.val = 256 * (t.val % 16 - 1) + j.val; rw [hi.2.1]; omega
  | ⟨2, _⟩ => show win0_2.index t 2 * 512 + 1 * l.val = l.val; rw [hi.2.2]; omega

theorem block_k2 (t : Fin cfg0.N) (j : Fin 256) (l : Fin 512) :
    (iblk m c 3 t : Vec Ideal S1x256x512 .bf16) (ix3 (0 : Fin 1) j l)
      = m ((c : Thread nD τ).loc main_arg1) (ix3 (⟨t.val / 16, batch_lt t⟩ : Fin 4) (⟨256 * (t.val % 16) + j.val, by omega⟩ : Fin 4096) l) := by
  have hi := index_k2 t
  unfold iblk
  rw [View.read_apply]
  show V m c main_arg1 _ = _
  rw [V_main_arg1]
  congr 1
  funext a
  apply Fin.ext
  match a with
  | ⟨0, _⟩ => show win0_3.index t 0 * 1 + 1 * 0 = t.val / 16; rw [hi.1]; omega
  | ⟨1, _⟩ => show win0_3.index t 1 * 256 + 1 * j.val = 256 * (t.val % 16) + j.val; rw [hi.2.1]; omega
  | ⟨2, _⟩ => show win0_3.index t 2 * 512 + 1 * l.val = l.val; rw [hi.2.2]; omega

theorem block_v0 (t : Fin cfg0.N) (l : Fin 512) (j : Fin 256) :
    (iblk m c 4 t : Vec Ideal S1x512x256 .bf16) (ix3 (0 : Fin 1) l j)
      = m ((c : Thread nD τ).loc main_arg2) (ix3 (⟨t.val / 16, batch_lt t⟩ : Fin 4) l (⟨256 * (t.val % 16 - 2) + j.val, by omega⟩ : Fin 4096)) := by
  have hi := index_v0 t
  unfold iblk
  rw [View.read_apply]
  show V m c main_arg2 _ = _
  rw [V_main_arg2]
  congr 1
  funext a
  apply Fin.ext
  match a with
  | ⟨0, _⟩ => show win0_4.index t 0 * 1 + 1 * 0 = t.val / 16; rw [hi.1]; omega
  | ⟨1, _⟩ => show win0_4.index t 1 * 512 + 1 * l.val = l.val; rw [hi.2.1]; omega
  | ⟨2, _⟩ => show win0_4.index t 2 * 256 + 1 * j.val = 256 * (t.val % 16 - 2) + j.val; rw [hi.2.2]; omega

theorem block_v1 (t : Fin cfg0.N) (l : Fin 512) (j : Fin 256) :
    (iblk m c 5 t : Vec Ideal S1x512x256 .bf16) (ix3 (0 : Fin 1) l j)
      = m ((c : Thread nD τ).loc main_arg2) (ix3 (⟨t.val / 16, batch_lt t⟩ : Fin 4) l (⟨256 * (t.val % 16 - 1) + j.val, by omega⟩ : Fin 4096)) := by
  have hi := index_v1 t
  unfold iblk
  rw [View.read_apply]
  show V m c main_arg2 _ = _
  rw [V_main_arg2]
  congr 1
  funext a
  apply Fin.ext
  match a with
  | ⟨0, _⟩ => show win0_5.index t 0 * 1 + 1 * 0 = t.val / 16; rw [hi.1]; omega
  | ⟨1, _⟩ => show win0_5.index t 1 * 512 + 1 * l.val = l.val; rw [hi.2.1]; omega
  | ⟨2, _⟩ => show win0_5.index t 2 * 256 + 1 * j.val = 256 * (t.val % 16 - 1) + j.val; rw [hi.2.2]; omega

theorem block_v2 (t : Fin cfg0.N) (l : Fin 512) (j : Fin 256) :
    (iblk m c 6 t : Vec Ideal S1x512x256 .bf16) (ix3 (0 : Fin 1) l j)
      = m ((c : Thread nD τ).loc main_arg2) (ix3 (⟨t.val / 16, batch_lt t⟩ : Fin 4) l (⟨256 * (t.val % 16) + j.val, by omega⟩ : Fin 4096)) := by
  have hi := index_v2 t
  unfold iblk
  rw [View.read_apply]
  show V m c main_arg2 _ = _
  rw [V_main_arg2]
  congr 1
  funext a
  apply Fin.ext
  match a with
  | ⟨0, _⟩ => show win0_6.index t 0 * 1 + 1 * 0 = t.val / 16; rw [hi.1]; omega
  | ⟨1, _⟩ => show win0_6.index t 1 * 512 + 1 * l.val = l.val; rw [hi.2.1]; omega
  | ⟨2, _⟩ => show win0_6.index t 2 * 256 + 1 * j.val = 256 * (t.val % 16) + j.val; rw [hi.2.2]; omega

theorem block_b (t : Fin cfg0.N) (h : Fin 8) (j : Fin 768) (r : Fin 256) :
    (iblk m c 7 t : Vec Ideal S8x768x256 .f32) (ix3 h j r) = bandBias (m ((c : Thread nD τ).loc main_arg3)) h j r := by
  have hi := index_b t
  rw [← bias_apply]
  unfold iblk
  rw [View.read_apply]
  show V m c main_v46 _ = _
  congr 1
  funext a
  apply Fin.ext
  match a with
  | ⟨0, _⟩ => show win0_7.index t 0 * 8 + 1 * h.val = h.val; rw [hi.1]; omega
  | ⟨1, _⟩ => show win0_7.index t 1 * 768 + 1 * j.val = j.val; rw [hi.2.1]; omega
  | ⟨2, _⟩ => show win0_7.index t 2 * 256 + 1 * r.val = r.val; rw [hi.2.2]; omega

/-- The 768 key rows of a point. -/
theorem keys_block (t : Fin cfg0.N) (j : Fin 768) (l : Fin 512) :
    k0_pay3 (iblk m c 1 t) (iblk m c 2 t) (iblk m c 3 t) (ix2 j l)
      = m ((c : Thread nD τ).loc main_arg1) (ix3 (⟨t.val / 16, batch_lt t⟩ : Fin 4) (⟨keyRow (t.val % 16) j.val, keyRow_lt (by omega)⟩ : Fin 4096) l) := by
  rw [keys_apply]
  have e : ∀ (x : Fin 4096), x.val = keyRow (t.val % 16) j.val →
      m ((c : Thread nD τ).loc main_arg1) (ix3 (⟨t.val / 16, batch_lt t⟩ : Fin 4) x l)
        = m ((c : Thread nD τ).loc main_arg1) (ix3 (⟨t.val / 16, batch_lt t⟩ : Fin 4) (⟨keyRow (t.val % 16) j.val, keyRow_lt (by omega)⟩ : Fin 4096) l) :=
    fun x hx => by rw [show x = ⟨keyRow (t.val % 16) j.val, keyRow_lt (by omega)⟩ from Fin.ext hx]
  split
  · exact (block_k0 m c t _ l).trans (e _ (by unfold keyRow; dsimp only; omega))
  · split
    · exact (block_k1 m c t _ l).trans (e _ (by unfold keyRow; dsimp only; omega))
    · exact (block_k2 m c t _ l).trans (e _ (by unfold keyRow; dsimp only; omega))

/-- The 768 value columns of a point. -/
theorem values_block (t : Fin cfg0.N) (l : Fin 512) (j : Fin 768) :
    k0_pay4 (iblk m c 4 t) (iblk m c 5 t) (iblk m c 6 t) (ix2 l j)
      = m ((c : Thread nD τ).loc main_arg2) (ix3 (⟨t.val / 16, batch_lt t⟩ : Fin 4) l (⟨keyRow (t.val % 16) j.val, keyRow_lt (by omega)⟩ : Fin 4096)) := by
  rw [values_apply]
  have e : ∀ (x : Fin 4096), x.val = keyRow (t.val % 16) j.val →
      m ((c : Thread nD τ).loc main_arg2) (ix3 (⟨t.val / 16, batch_lt t⟩ : Fin 4) l x)
        = m ((c : Thread nD τ).loc main_arg2) (ix3 (⟨t.val / 16, batch_lt t⟩ : Fin 4) l (⟨keyRow (t.val % 16) j.val, keyRow_lt (by omega)⟩ : Fin 4096)) :=
    fun x hx => by rw [show x = ⟨keyRow (t.val % 16) j.val, keyRow_lt (by omega)⟩ from Fin.ext hx]
  split
  · exact (block_v0 m c t l _).trans (e _ (by unfold keyRow; dsimp only; omega))
  · split
    · exact (block_v1 m c t l _).trans (e _ (by unfold keyRow; dsimp only; omega))
    · exact (block_v2 m c t l _).trans (e _ (by unfold keyRow; dsimp only; omega))

/-- What a point computes from its blocks, as a function of the arguments. -/
theorem attend_block (t : Fin cfg0.N) (n : ℕ) (hn : n = 512 - 256 * (t.val % 16)) (l : Fin 512) (r : Fin 256) :
    attend (masked n (logits (iblk m c 0 t) (k0_pay3 (iblk m c 1 t) (iblk m c 2 t) (iblk m c 3 t)) (iblk m c 7 t)))
        (k0_pay4 (iblk m c 4 t) (iblk m c 5 t) (iblk m c 6 t)) l r
      = bandResult (m ((c : Thread nD τ).loc main_arg0)) (m ((c : Thread nD τ).loc main_arg1)) (m ((c : Thread nD τ).loc main_arg2))
          (m ((c : Thread nD τ).loc main_arg3)) ⟨t.val / 16, batch_lt t⟩ l ⟨256 * (t.val % 16) + r.val, by omega⟩ := by
  have ei : (256 * (t.val % 16) + r.val) / 256 = t.val % 16 := by omega
  have er : (256 * (t.val % 16) + r.val) % 256 = r.val := by omega
  have hs : ∀ (h : Fin 8) (j : Fin 768),
      masked n (logits (iblk m c 0 t) (k0_pay3 (iblk m c 1 t) (iblk m c 2 t) (iblk m c 3 t)) (iblk m c 7 t)) h j r
        = score (m ((c : Thread nD τ).loc main_arg0)) (m ((c : Thread nD τ).loc main_arg1)) (m ((c : Thread nD τ).loc main_arg3))
            ⟨t.val / 16, batch_lt t⟩ h ⟨256 * (t.val % 16) + r.val, by omega⟩ j := by
    intro h j
    unfold masked score logits
    simp only [ei, er, keys_block, block_q, block_b]
    exact if_congr (by omega) rfl rfl
  have hv : ∀ j : Fin 768, k0_pay4 (iblk m c 4 t) (iblk m c 5 t) (iblk m c 6 t) (ix2 l j)
      = value (m ((c : Thread nD τ).loc main_arg2)) ⟨t.val / 16, batch_lt t⟩ l ⟨256 * (t.val % 16) + r.val, by omega⟩ j := by
    intro j
    unfold value
    simp only [ei, values_block]
  unfold attend bandResult
  simp only [hs, hv]

/-- The whole result array. -/
def result : Buf (Elt Ideal) ((c : Thread nD τ).loc main_v47) := fun y : S4x512x4096.Idx =>
  bandResult (m ((c : Thread nD τ).loc main_arg0)) (m ((c : Thread nD τ).loc main_arg1)) (m ((c : Thread nD τ).loc main_arg2))
    (m ((c : Thread nD τ).loc main_arg3)) (y 0) (y 1) (y 2)

/-- A point's block of the result, at an index. -/
theorem read_o (t : Fin cfg0.N) (y : S1x512x256.Idx) :
    ((cfg0.win 8).blk t).view.read (Elt Ideal) (result m c) y
      = result m c (ix3 (⟨t.val / 16, batch_lt t⟩ : Fin 4) (y 1 : Fin 512)
          (⟨256 * (t.val % 16) + (y 2).val, by have h2 : (y 2 : ℕ) < 256 := (y 2).isLt; omega⟩ : Fin 4096)) := by
  have hi := index_o t
  have h0 : (y 0 : ℕ) < 1 := (y 0).isLt
  have h2 : (y 2 : ℕ) < 256 := (y 2).isLt
  have e : (((cfg0.win 8).blk t).view.emb y : S4x512x4096.Idx)
      = ix3 (⟨t.val / 16, batch_lt t⟩ : Fin 4) (y 1) (⟨256 * (t.val % 16) + (y 2).val, by omega⟩ : Fin 4096) := by
    funext a
    apply Fin.ext
    match a with
    | ⟨0, _⟩ => show win0_8.index t 0 * 1 + 1 * (y 0 : ℕ) = t.val / 16; rw [hi.1]; omega
    | ⟨1, _⟩ => show win0_8.index t 1 * 512 + 1 * (y 1 : ℕ) = (y 1 : ℕ); rw [hi.2.1]; omega
    | ⟨2, _⟩ => show win0_8.index t 2 * 256 + 1 * (y 2 : ℕ) = 256 * (t.val % 16) + (y 2 : ℕ); rw [hi.2.2]; omega
  rw [View.read_apply]
  show result m c (((cfg0.win 8).blk t).view.emb y) = _
  rw [e]
  rfl

/-- What a point writes back is its block of the result. -/
theorem flushed_eq (t : Fin cfg0.N) (hf : (cfg0.win 8).flush t = true) :
    (dats m 0 c).flushed 8 t = ((cfg0.win 8).blk t).view.read (Elt Ideal) (result m c) := by
  have key : ∀ (n : ℕ) (_ : n = 512 - 256 * (t.val % 16)) (y : S1x512x256.Idx),
      attend (masked n (logits (iblk m c 0 t) (k0_pay3 (iblk m c 1 t) (iblk m c 2 t) (iblk m c 3 t)) (iblk m c 7 t)))
        (k0_pay4 (iblk m c 4 t) (iblk m c 5 t) (iblk m c 6 t)) (y 1) (y 2)
        = ((cfg0.win 8).blk t).view.read (Elt Ideal) (result m c) y :=
    fun n hn y => (attend_block m c t n hn (y 1) (y 2)).trans (read_o m c t y).symm
  by_cases h0 : t.val % 16 = 0
  · rw [flushed8_A m c t h0 (by omega)]
    funext y
    exact (out_A ..).trans (key 512 (by omega) y)
  · by_cases h1 : t.val % 16 = 1
    · rw [flushed8_B m c t h0 h1]
      funext y
      exact (out_B ..).trans (key 256 (by omega) y)
    · rw [flushed8_C m c t h0 h1]
      funext y
      have hk := key 0 (by omega) y
      rw [masked_zero] at hk
      exact (out_C ..).trans hk

/-- The result array after the run. -/
theorem final_o : (dats m 0 c).arrAt 8 cfg0.N = result m c :=
  (dats m 0 c).arrAt_eq_of_cover 8 (result m c) (flushed_eq m c) fun i => by
    have hN : cfg0.N = 64 := N_0
    have h0 : (i 0 : Nat) < 4 := (i 0).isLt
    have h1 : (i 1 : Nat) < 512 := (i 1).isLt
    have h2 : (i 2 : Nat) < 4096 := (i 2).isLt
    have ht : 16 * (i 0 : Nat) + (i 2 : Nat) / 256 < cfg0.N := by omega
    have hi := index_o ⟨16 * (i 0 : Nat) + (i 2 : Nat) / 256, ht⟩
    refine ⟨⟨16 * (i 0 : Nat) + (i 2 : Nat) / 256, ht⟩, flush0_8 _, ?_⟩
    show i ∈ ((View.whole main_v47).slice (win0_8.rect ⟨16 * (i 0 : Nat) + (i 2 : Nat) / 256, ht⟩)).set
    rw [View.set_slice_whole, Rect.mem_set_unit]
    dsimp only at hi
    intro a
    match a with
    | ⟨0, _⟩ =>
      show win0_8.index _ 0 * 1 ≤ (i 0 : Nat) ∧ (i 0 : Nat) < win0_8.index _ 0 * 1 + 1
      rw [hi.1]; omega
    | ⟨1, _⟩ =>
      show win0_8.index _ 1 * 512 ≤ (i 1 : Nat) ∧ (i 1 : Nat) < win0_8.index _ 1 * 512 + 512
      rw [hi.2.1]; omega
    | ⟨2, _⟩ =>
      show win0_8.index _ 2 * 256 ≤ (i 2 : Nat) ∧ (i 2 : Nat) < win0_8.index _ 2 * 256 + 256
      rw [hi.2.2]; omega

end Cert.KernelIdeal.Band

end
-- ==== Proof.BandMath.lean ====
/- The attention over a query block's 768 keys is the attention over the query's own band of 576, where queries, keys and the
   bias table are finite. -/
module

public import proofs.«01_k».proof.Proof.SoftmaxMath
public import proofs.«01_k».proof.Proof.BandArray

@[expose] public section

noncomputable section

namespace Cert.KernelIdeal.Band

open Idealize.ShloMosaic Cert.KernelIdeal

/-- A product of two finite extended reals summed over an index, plus a finite one, is finite. -/
theorem dot_finite {ι : Type} [Fintype ι] (f g : ι → EReal) (t : EReal) (hf : ∀ i, f i ≠ ⊥ ∧ f i ≠ ⊤) (hg : ∀ i, g i ≠ ⊥ ∧ g i ≠ ⊤)
    (ht : t ≠ ⊥ ∧ t ≠ ⊤) : (∑ i, f i * g i) + t ≠ ⊥ ∧ (∑ i, f i * g i) + t ≠ ⊤ := by
  have e : ∀ i, f i * g i = (((f i).toReal * (g i).toReal : ℝ) : EReal) := fun i => by
    rw [EReal.coe_mul, EReal.coe_toReal (hf i).2 (hf i).1, EReal.coe_toReal (hg i).2 (hg i).1]
  have et : t = ((t.toReal : ℝ) : EReal) := (EReal.coe_toReal ht.2 ht.1).symm
  have es : (∑ i, f i * g i) = ((∑ i, (f i).toReal * (g i).toReal : ℝ) : EReal) := by
    rw [Finset.sum_congr rfl fun i _ => e i]
    exact (map_sum (⟨⟨Real.toEReal, EReal.coe_zero⟩, EReal.coe_add⟩ : ℝ →+ EReal) _ _).symm
  rw [es, et, ← EReal.coe_add]
  exact ⟨EReal.coe_ne_bot _, EReal.coe_ne_top _⟩

/-- The reference's masked logit: head `h`, between the query at `x` and key `k` of its band. -/
def bandScore (Q : S4x512x4096.Idx → EReal) (K : S4x4096x512.Idx → EReal) (T : S1x129x8.Idx → EReal) (b : Fin 4) (h : Fin 8)
    (x : Fin 4096) (k : Fin 576) : EReal :=
  if hk : 64 * (x.val / 64) + k.val < 512 then ⊥
  else (∑ d : Fin 64, Q (ix3 b (⟨64 * h.val + d.val, by omega⟩ : Fin 512) x)
      * K (ix3 b (⟨64 * (x.val / 64) + k.val - 512, by omega⟩ : Fin 4096) (⟨64 * h.val + d.val, by omega⟩ : Fin 512)))
    + T (ix3 (0 : Fin 1) (⟨min (576 + x.val % 64 - k.val) 128, by omega⟩ : Fin 129) h)

/-- The reference's value that goes with key `k`: zero before the sequence. -/
def bandValue (V : S4x512x4096.Idx → EReal) (b : Fin 4) (l : Fin 512) (x : Fin 4096) (k : Fin 576) : EReal :=
  if hk : 64 * (x.val / 64) + k.val < 512 then 0 else V (ix3 b l (⟨64 * (x.val / 64) + k.val - 512, by omega⟩ : Fin 4096))

theorem bandResult_eq (Q : S4x512x4096.Idx → EReal) (K : S4x4096x512.Idx → EReal) (V : S4x512x4096.Idx → EReal) (T : S1x129x8.Idx → EReal)
    (hQ : ∀ i, Q i ≠ ⊥ ∧ Q i ≠ ⊤) (hK : ∀ i, K i ≠ ⊥ ∧ K i ≠ ⊤) (hT : ∀ i, T i ≠ ⊥ ∧ T i ≠ ⊤) (b : Fin 4) (l : Fin 512) (x : Fin 4096) :
    bandResult Q K V T b l x
      = ∑ k : Fin 576, bandValue V b l x k
          * Ideal.div (Ideal.exp (bandScore Q K T b ⟨l.val / 64, by omega⟩ x k
              - Finset.univ.sup fun k : Fin 576 => bandScore Q K T b ⟨l.val / 64, by omega⟩ x k))
            (∑ k : Fin 576, Ideal.exp (bandScore Q K T b ⟨l.val / 64, by omega⟩ x k
              - Finset.univ.sup fun k : Fin 576 => bandScore Q K T b ⟨l.val / 64, by omega⟩ x k)) := by
  have hc : (x.val % 256) / 64 < 4 := by omega
  have hfin : ∀ k : Fin 576, ¬ 64 * (x.val / 64) + k.val < 512 →
      bandScore Q K T b ⟨l.val / 64, by omega⟩ x k ≠ ⊥ ∧ bandScore Q K T b ⟨l.val / 64, by omega⟩ x k ≠ ⊤ := by
    intro k hk
    unfold bandScore
    rw [dif_neg hk]
    exact dot_finite _ _ _ (fun _ => hQ _) (fun _ => hK _) (hT _)
  have hmask : ∀ k : Fin 576, 64 * (x.val / 64) + k.val < 512 → bandScore Q K T b ⟨l.val / 64, by omega⟩ x k = ⊥ := by
    intro k hk
    unfold bandScore
    rw [dif_pos hk]
  unfold bandResult
  refine Cert.SoftmaxMath.attention_eq (fun k : Fin 576 => (⟨64 * (x.val % 256 / 64) + k.val, by omega⟩ : Fin 768)) ?_
    (score Q K T b ⟨l.val / 64, by omega⟩ x) (value V b l x) (bandScore Q K T b ⟨l.val / 64, by omega⟩ x) (bandValue V b l x) ?_ ?_ ?_ ?_ ?_
  · intro k k' e
    have := congrArg Fin.val e
    dsimp only at this
    exact Fin.ext (by omega)
  · intro k
    by_cases hk : 64 * (x.val / 64) + k.val < 512
    · rw [hmask k hk]
      unfold score
      rw [if_pos (by dsimp only; omega)]
    · unfold score bandScore bandBias
      rw [dif_neg hk, if_neg (by dsimp only; omega), if_pos (by dsimp only; omega)]
      congr 1
      · refine Finset.sum_congr rfl fun d _ => ?_
        rw [mul_comm]
        congr 2
        congr 1
        exact Fin.ext (by unfold keyRow; dsimp only; omega)
      · congr 2
        exact Fin.ext (by dsimp only; omega)
  · intro j hj
    unfold score
    split
    · rfl
    · unfold bandBias
      rw [if_neg, EReal.add_bot]
      intro hb
      exact hj ⟨j.val - 64 * (x.val % 256 / 64), by dsimp only at hb; omega⟩ (Fin.ext (by dsimp only at hb ⊢; omega))
  · intro k hk
    by_cases hk' : 64 * (x.val / 64) + k.val < 512
    · exact absurd (hmask k hk') hk
    · unfold value bandValue
      rw [dif_neg hk']
      congr 2
      exact Fin.ext (by unfold keyRow; dsimp only; omega)
  · intro k
    by_cases hk : 64 * (x.val / 64) + k.val < 512
    · rw [hmask k hk]
      exact bot_ne_top
    · exact (hfin k hk).2
  · exact ⟨⟨512, by omega⟩, (hfin _ (by dsimp only; omega)).1⟩

end Cert.KernelIdeal.Band

end
-- ==== Proof.RefPieces.lean ====
/- The intermediate arrays of the reference: the gathered keys and values of a chunk's band, the bias, and the mask. -/
module

public import proofs.«01_k».proof.Proof.Gen.ReferenceIdeal.Read
public import Idealize.ShloMosaic.Lib.Pointwise

@[expose] public section

noncomputable section

namespace Cert.ReferenceIdeal.Band

open Idealize.ShloMosaic Cert.ReferenceIdeal Cert.ReferenceIdeal.Gen Cert.ReferenceIdeal.Read

/-- The gather of nine consecutive chunks for every chunk, flattened to a band of 576 rows, at an index. -/
theorem chunks_apply (y : S4x72x64x8x64.Idx → EReal) (idx : IVec S64x9x1 32)
    (hidx : ∀ (c : Fin 64) (n : Fin 9), min (idx (ix3 c n (0 : Fin 1))).toInt.toNat 71 = c.val + n.val)
    (b : Fin 4) (c : Fin 64) (k : Fin 576) (h : Fin 8) (d : Fin 64) :
    shapeCast S4x64x576x8x64 (Host.gather gather_S4x72x64x8x64_S64x9x1_S4x64x9x64x8x64_0345_1_n_n_1_2_4164864 y idx)
        shapeCasts_S4x64x9x64x8x64_S4x64x576x8x64 (ix5 b c k h d)
      = y (ix5 b (⟨c.val + k.val / 64, by omega⟩ : Fin 72) (⟨k.val % 64, by omega⟩ : Fin 64) h d) := by
  have hk9 : k.val / 64 < 9 := by omega
  let i : S4x64x9x64x8x64.Idx := fun a => match a with
    | ⟨0, _⟩ => b
    | ⟨1, _⟩ => c
    | ⟨2, _⟩ => (⟨k.val / 64, hk9⟩ : Fin 9)
    | ⟨3, _⟩ => (⟨k.val % 64, by omega⟩ : Fin 64)
    | ⟨4, _⟩ => h
    | ⟨5, _⟩ => d
  rw [shapeCast_apply _ _ _ i (by
    rw [Shape.rowMajor_val_five, Shape.rowMajor_val_succ, Shape.rowMajor_val_five]
    have en : (⟨5, fun a => S4x64x9x64x8x64.size a.succ⟩ : Shape).numel = 18874368 := by decide +kernel
    show b.val * (⟨5, fun a => S4x64x9x64x8x64.size a.succ⟩ : Shape).numel
        + ((((c.val * 9 + k.val / 64) * 64 + k.val % 64) * 8 + h.val) * 64 + d.val)
      = ((((b.val * 64 + c.val) * 576 + k.val) * 8 + h.val) * 64 + d.val)
    rw [en]
    omega)]
  have hsi : ∀ k', gather_S4x72x64x8x64_S64x9x1_S4x64x9x64x8x64_0345_1_n_n_1_2_4164864.siIdx i k' = ix3 c (⟨k.val / 64, hk9⟩ : Fin 9) (0 : Fin 1) := by
    intro k'
    funext a
    match a with
    | ⟨0, _⟩ => rfl
    | ⟨1, _⟩ => rfl
    | ⟨2, _⟩ => exact Subsingleton.elim (α := Fin 1) _ _
  unfold Host.gather
  congr 1
  funext a
  refine Fin.ext ?_
  match a with
  | ⟨0, _⟩ =>
    show 0 + 0 + b.val = b.val
    omega
  | ⟨1, _⟩ =>
    show min (idx (gather_S4x72x64x8x64_S64x9x1_S4x64x9x64x8x64_0345_1_n_n_1_2_4164864.siIdx i _)).toInt.toNat 71 + 0 + 0 = _
    rw [hsi, hidx]
    rfl
  | ⟨2, _⟩ =>
    show 0 + 0 + k.val % 64 = k.val % 64
    omega
  | ⟨3, _⟩ =>
    show 0 + 0 + h.val = h.val
    omega
  | ⟨4, _⟩ =>
    show 0 + 0 + d.val = d.val
    omega

theorem chunkIndex_word : ∀ (c : Fin 64) (n : Fin 9),
    min (BitVec.toInt (Scalar.select (IntOp.cmpi .slt (IntOp.addi (BitVec.ofNat 32 c.val) (BitVec.ofNat 32 n.val)) 0#32)
      (IntOp.addi (IntOp.addi (BitVec.ofNat 32 c.val) (BitVec.ofNat 32 n.val)) 72#32)
      (IntOp.addi (BitVec.ofNat 32 c.val) (BitVec.ofNat 32 n.val)))).toNat 71 = c.val + n.val := by
  decide +kernel

theorem index_keys (c : Fin 64) (n : Fin 9) : min (val_main_v25 (F := Ideal) (ix3 c n (0 : Fin 1))).toInt.toNat 71 = c.val + n.val := by
  refine Eq.trans ?_ (chunkIndex_word c n)
  pointwise [val_main_v25, val_main_v24, val_main_v23, val_main_v22, val_main_c_2, val_main_v21, val_main_v20, val_main_c_1, val_main_v19,
    val_main_v18, val_main_v17, val_main_v16, val_main_v15, val_main_v14, val_main_v13]

theorem index_values (c : Fin 64) (n : Fin 9) : min (val_main_v33 (F := Ideal) (ix3 c n (0 : Fin 1))).toInt.toNat 71 = c.val + n.val := by
  refine Eq.trans ?_ (chunkIndex_word c n)
  pointwise [val_main_v33, val_main_v32, val_main_v31, val_main_v30, val_main_c_4, val_main_v29, val_main_v28, val_main_c_3, val_main_v19,
    val_main_v18, val_main_v17, val_main_v16, val_main_v15, val_main_v14, val_main_v13]

theorem sitofp_zero : (FloatOps.sitofp (F := Ideal) FTy.f32 (0#32 : BitVec 32) : EReal) = 0 := by
  show (((0#32 : BitVec 32).toInt : ℝ) : EReal) = 0
  simp

/-- The padded keys of chunk `n`. -/
theorem paddedKeys_apply (x1 : S4x4096x512.Idx → EReal) (b : Fin 4) (n : Fin 72) (r : Fin 64) (h : Fin 8) (d : Fin 64) :
    val_main_v10 (F := Ideal) x1 (ix5 b n r h d) = if hk : 64 * n.val + r.val < 512 then 0
      else x1 (ix3 b (⟨64 * n.val + r.val - 512, by omega⟩ : Fin 4096) (⟨64 * h.val + d.val, by omega⟩ : Fin 512)) := by
  pointwise [val_main_v10, val_main_v9, val_main_call0_v0, val_main_c, val_main_v5, val_main_v4]
  simp only [Nat.mul_comm n.val 64, Nat.mul_comm h.val 64]
  by_cases hk : 64 * n.val + r.val < 512
  · rw [dif_neg (by omega), dif_pos hk]
    exact sitofp_zero
  · rw [dif_pos (by omega), dif_neg hk]

/-- The padded values of chunk `n`. -/
theorem paddedValues_apply (x2 : S4x512x4096.Idx → EReal) (b : Fin 4) (n : Fin 72) (r : Fin 64) (h : Fin 8) (d : Fin 64) :
    val_main_v12 (F := Ideal) x2 (ix5 b n r h d) = if hk : 64 * n.val + r.val < 512 then 0
      else x2 (ix3 b (⟨64 * h.val + d.val, by omega⟩ : Fin 512) (⟨64 * n.val + r.val - 512, by omega⟩ : Fin 4096)) := by
  pointwise [val_main_v12, val_main_v11, val_main_call1_v0, val_main_c_0, val_main_v8, val_main_v7, val_main_v6]
  simp only [Nat.mul_comm n.val 64, Nat.mul_comm h.val 64]
  by_cases hk : 64 * n.val + r.val < 512
  · rw [dif_neg (by omega), dif_pos hk]
    exact sitofp_zero
  · rw [dif_pos (by omega), dif_neg hk]

/-- The gathered keys of chunk `c`'s band. -/
theorem keys_apply (x1 : S4x4096x512.Idx → EReal) (b : Fin 4) (c : Fin 64) (k : Fin 576) (h : Fin 8) (d : Fin 64) :
    val_main_v27 (F := Ideal) x1 (ix5 b c k h d) = if hk : 64 * c.val + k.val < 512 then 0
      else x1 (ix3 b (⟨64 * c.val + k.val - 512, by omega⟩ : Fin 4096) (⟨64 * h.val + d.val, by omega⟩ : Fin 512)) := by
  have e : 64 * (c.val + k.val / 64) + k.val % 64 = 64 * c.val + k.val := by omega
  refine (chunks_apply _ _ index_keys b c k h d).trans ((paddedKeys_apply x1 b _ _ h d).trans ?_)
  simp only [e]

/-- The gathered values of chunk `c`'s band. -/
theorem values_apply (x2 : S4x512x4096.Idx → EReal) (b : Fin 4) (c : Fin 64) (k : Fin 576) (h : Fin 8) (d : Fin 64) :
    val_main_v35 (F := Ideal) x2 (ix5 b c k h d) = if hk : 64 * c.val + k.val < 512 then 0
      else x2 (ix3 b (⟨64 * h.val + d.val, by omega⟩ : Fin 512) (⟨64 * c.val + k.val - 512, by omega⟩ : Fin 4096)) := by
  have e : 64 * (c.val + k.val / 64) + k.val % 64 = 64 * c.val + k.val := by omega
  refine (chunks_apply _ _ index_values b c k h d).trans ((paddedValues_apply x2 b _ _ h d).trans ?_)
  simp only [e]

/-- The queries of chunk `c`. -/
theorem queries_apply (x0 : S4x512x4096.Idx → EReal) (b : Fin 4) (c q : Fin 64) (h : Fin 8) (d : Fin 64) :
    val_main_v36 (F := Ideal) x0 (ix5 b c q h d) = x0 (ix3 b (⟨64 * h.val + d.val, by omega⟩ : Fin 512) (⟨64 * c.val + q.val, by omega⟩ : Fin 4096)) := by
  pointwise [val_main_v36, val_main_v3, val_main_v2, val_main_v1]
  simp only [Nat.mul_comm c.val 64, Nat.mul_comm h.val 64]

/-- The row of the bias table for the distance `e - 576` from a query to a key, as the reference's words compute it. -/
def biasWord (w : BitVec 32) : BitVec 32 :=
  Scalar.select (IntOp.cmpi .slt (IntOp.addi (IntOp.minsi 64#32 (IntOp.maxsi 4294967232#32 w)) 64#32) 0#32)
    (IntOp.addi (IntOp.addi (IntOp.minsi 64#32 (IntOp.maxsi 4294967232#32 w)) 64#32) 129#32)
    (IntOp.addi (IntOp.minsi 64#32 (IntOp.maxsi 4294967232#32 w)) 64#32)

theorem biasWord_ofNat : ∀ e : Fin 640, min (biasWord (BitVec.ofNat 32 e.val - 64#32)).toInt.toNat 128 = min e.val 128 := by
  decide +kernel

theorem index_bias (q : Fin 64) (k : Fin 576) :
    min (val_main_v54 (F := Ideal) (ix3 q k (0 : Fin 1))).toInt.toNat 128 = min (576 + q.val - k.val) 128 := by
  refine Eq.trans ?_ (biasWord_ofNat ⟨576 + q.val - k.val, by omega⟩)
  have e : BitVec.ofNat 32 (576 + q.val - k.val) - 64#32 = IntOp.subi (IntOp.addi (BitVec.ofNat 32 q.val) 512#32) (BitVec.ofNat 32 k.val) := by
    show _ = BitVec.ofNat 32 q.val + 512#32 - BitVec.ofNat 32 k.val
    have hq := q.isLt
    have hk := k.isLt
    apply BitVec.eq_of_toNat_eq
    simp only [BitVec.toNat_sub, BitVec.toNat_add, BitVec.toNat_ofNat]
    omega
  dsimp only
  rw [e]
  pointwise [val_main_v54, val_main_v53, val_main_v52, val_main_v51, val_main_c_10, val_main_v50, val_main_v49, val_main_c_9, val_main_v48,
    val_main_v47, val_main_c_8, val_main_v46, val_main_call2_v4, val_main_call2_v3, val_main_call2_v2, val_main_call2_v1,
    val_main_call2_v0, val_main_c_7, val_main_c_6, val_main_v45, val_main_v44, val_main_v43, val_main_v42, val_main_v41, val_main_v40,
    val_main_v39, val_main_c_5, val_main_v38, val_main_v37]
  rfl

/-- The reference's gather of the table's rows, at an index. -/
theorem gather_apply (T : S129x8.Idx → EReal) (idx : IVec S64x576x1 32) (q : Fin 64) (k : Fin 576) (h : Fin 8) :
    Host.gather gather_S129x8_S64x576x1_S64x576x8_2_0_n_n_0_2_18 T idx (ix3 q k h)
      = T (ix2 ⟨min (idx (ix3 q k (0 : Fin 1))).toInt.toNat 128, by omega⟩ h) := by
  have hsi : ∀ k', gather_S129x8_S64x576x1_S64x576x8_2_0_n_n_0_2_18.siIdx (ix3 q k h) k' = ix3 q k (0 : Fin 1) := by
    intro k'
    funext b
    match b with
    | ⟨0, _⟩ => rfl
    | ⟨1, _⟩ => rfl
    | ⟨2, _⟩ => exact Subsingleton.elim (α := Fin 1) _ _
  unfold Host.gather
  congr 1
  funext a
  refine Fin.ext ?_
  match a with
  | ⟨0, _⟩ =>
    show min (idx (gather_S129x8_S64x576x1_S64x576x8_2_0_n_n_0_2_18.siIdx (ix3 q k h) _)).toInt.toNat 128 + 0 + 0 = _
    rw [hsi]
    rfl
  | ⟨1, _⟩ =>
    show 0 + 0 + h.val = h.val
    omega

/-- The bias of head `h` between query `q` of a chunk and key `k` of its band. -/
theorem bias_apply (x3 : S1x129x8.Idx → EReal) (h : Fin 8) (q : Fin 64) (k : Fin 576) :
    val_main_v56 (F := Ideal) x3 (ix3 h q k) = x3 (ix3 (0 : Fin 1) (⟨min (576 + q.val - k.val) 128, by omega⟩ : Fin 129) h) := by
  have e : val_main_v56 (F := Ideal) x3 (ix3 h q k) = val_main_v55 (F := Ideal) x3 (ix3 q k h) := by
    unfold val_main_v56
    pointwise
  refine e.trans ((gather_apply _ _ q k h).trans ?_)
  refine (congrArg (fun a : Fin 129 => val_main_v0 (F := Ideal) x3 (ix2 a h)) (Fin.ext (index_bias q k) :
    (⟨_, by omega⟩ : Fin 129) = ⟨min (576 + q.val - k.val) 128, by omega⟩)).trans ?_
  pointwise [val_main_v0]

theorem inSequence_word (c : Fin 64) (k : Fin 576) :
    IntOp.addi (IntOp.muli (IntOp.subi (BitVec.ofNat 32 c.val) 8#32) 64#32) (BitVec.ofNat 32 k.val)
      = BitVec.ofNat 32 (64 * c.val + k.val) - 512#32 := by
  show (BitVec.ofNat 32 c.val - 8#32) * 64#32 + BitVec.ofNat 32 k.val = _
  have hc := c.isLt
  have hk := k.isLt
  apply BitVec.eq_of_toNat_eq
  simp only [BitVec.toNat_sub, BitVec.toNat_add, BitVec.toNat_mul, BitVec.toNat_ofNat]
  omega

theorem cmp_word : ∀ e : Fin 4608, IntOp.cmpi .sge (BitVec.ofNat 32 e.val - 512#32) 0#32 = if e.val < 512 then 0#1 else 1#1 := by
  decide +kernel

/-- Whether key `k` of chunk `c`'s band is in the sequence. -/
theorem mask_apply (c : Fin 64) (k : Fin 576) :
    val_main_v73 (F := Ideal) (ix2 c k) = if 64 * c.val + k.val < 512 then 0#1 else 1#1 := by
  pointwise [val_main_v73, val_main_v72, val_main_c_13, val_main_v67, val_main_v66, val_main_v65, val_main_v64, val_main_v63, val_main_v62,
    val_main_v61, val_main_c_12, val_main_v60, val_main_v59, val_main_c_11, val_main_v58, val_main_v57]
  rw [inSequence_word c k]
  exact cmp_word ⟨64 * c.val + k.val, by omega⟩

end Cert.ReferenceIdeal.Band

end
-- ==== Proof.RefResult.lean ====
/- The reference's result, element by element. -/
module

public import proofs.«01_k».proof.Proof.RefPieces

@[expose] public section

noncomputable section

namespace Cert.ReferenceIdeal.Band

open Idealize.ShloMosaic Cert.ReferenceIdeal Cert.ReferenceIdeal.Gen Cert.ReferenceIdeal.Read

/-- The masked logit of head `h`, between query `q` of chunk `c` and key `k` of the chunk's band. -/
def score (x0 : S4x512x4096.Idx → EReal) (x1 : S4x4096x512.Idx → EReal) (x3 : S1x129x8.Idx → EReal) (b : Fin 4) (c : Fin 64) (h : Fin 8)
    (q : Fin 64) (k : Fin 576) : EReal :=
  if hk : 64 * c.val + k.val < 512 then ⊥
  else (∑ d : Fin 64, x0 (ix3 b (⟨64 * h.val + d.val, by omega⟩ : Fin 512) (⟨64 * c.val + q.val, by omega⟩ : Fin 4096))
      * x1 (ix3 b (⟨64 * c.val + k.val - 512, by omega⟩ : Fin 4096) (⟨64 * h.val + d.val, by omega⟩ : Fin 512)))
    + x3 (ix3 (0 : Fin 1) (⟨min (576 + q.val - k.val) 128, by omega⟩ : Fin 129) h)

theorem negInf : Ideal.ofBits .f32 0xFF800000#32 = ⊥ := by
  simp [Ideal.ofBits, Ideal.ieee]

theorem product_apply (x0 : S4x512x4096.Idx → EReal) (x1 : S4x4096x512.Idx → EReal) (b : Fin 4) (c : Fin 64) (h : Fin 8)
    (q : Fin 64) (k : Fin 576) : val_main_v68 (F := Ideal) x0 x1 (ix5 b c h q k)
      = ∑ d : Fin 64, val_main_v36 (F := Ideal) x0 (ix5 b c q h d) * val_main_v27 (F := Ideal) x1 (ix5 b c k h d) := by
  unfold val_main_v68
  pointwise

theorem score_apply (x0 : S4x512x4096.Idx → EReal) (x1 : S4x4096x512.Idx → EReal) (x3 : S1x129x8.Idx → EReal) (b : Fin 4) (c : Fin 64) (h : Fin 8)
    (q : Fin 64) (k : Fin 576) : val_main_v75 (F := Ideal) x0 x1 x3 (ix5 b c h q k) = score x0 x1 x3 b c h q k := by
  have e : val_main_v75 (F := Ideal) x0 x1 x3 (ix5 b c h q k)
      = Scalar.select (val_main_v73 (F := Ideal) (ix2 c k)) (val_main_v68 (F := Ideal) x0 x1 (ix5 b c h q k) + val_main_v56 (F := Ideal) x3 (ix3 h q k)) (⊥ : EReal) := by
    pointwise [val_main_v75, val_main_call3_v1, val_main_v74, val_main_v71, val_main_v70, val_main_v69, val_main_call3_v2, val_main_call3_v0, val_main_cst]
    congr 1
  rw [e, mask_apply, product_apply, bias_apply]
  unfold score
  by_cases hk : 64 * c.val + k.val < 512
  · rw [dif_pos hk, if_pos hk]
    rfl
  · rw [dif_neg hk, if_neg hk]
    simp only [queries_apply, keys_apply, dif_neg hk]
    rfl

/-- The maximum of a band's row. -/
theorem rowMax (y : FVec Ideal S4x64x8x64x576 .f32) (b : Fin 4) (c : Fin 64) (h : Fin 8) (q : Fin 64) :
    Host.reduce FloatOps.maximumf y (constant S_ .f32 0xFF800000#32) reducesTo_S4x64x8x64x576_S4x64x8x64_d4 h_S_ (ix4 b c h q)
      = Finset.univ.sup fun k : Fin 576 => (y (ix5 b c h q k) : EReal) := by
  pointwise
  rw [negInf]
  rfl

/-- The sum of a band's row. -/
theorem rowSum (y : FVec Ideal S4x64x8x64x576 .f32) (b : Fin 4) (c : Fin 64) (h : Fin 8) (q : Fin 64) :
    Host.reduceAdd y (constant S_ .f32 0x00000000#32) reducesTo_S4x64x8x64x576_S4x64x8x64_d4 h_S_ (ix4 b c h q)
      = ∑ k : Fin 576, (y (ix5 b c h q k) : EReal) := by
  pointwise

theorem max_apply (x0 : S4x512x4096.Idx → EReal) (x1 : S4x4096x512.Idx → EReal) (x3 : S1x129x8.Idx → EReal) (b : Fin 4) (c : Fin 64) (h : Fin 8)
    (q : Fin 64) : val_main_v78 (F := Ideal) x0 x1 x3 (ix4 b c h q) = Finset.univ.sup fun k : Fin 576 => score x0 x1 x3 b c h q k := by
  have e : val_main_v78 (F := Ideal) x0 x1 x3 (ix4 b c h q) = max (Ideal.ofBits .f32 0xFF800000#32) (val_main_v76 (F := Ideal) x0 x1 x3 (ix4 b c h q)) := by
    rw [val_main_v78_apply, val_main_v77_apply, val_main_cst_15_apply]
    generalize val_main_v76 (F := Ideal) x0 x1 x3 = y
    rfl
  have e' : val_main_v76 (F := Ideal) x0 x1 x3 (ix4 b c h q) = Finset.univ.sup fun k : Fin 576 => (val_main_v75 (F := Ideal) x0 x1 x3 (ix5 b c h q k) : EReal) := by
    unfold val_main_v76 val_main_cst_14
    generalize val_main_v75 (F := Ideal) x0 x1 x3 = y
    exact rowMax y b c h q
  rw [e, e', negInf, max_eq_right bot_le]
  simp only [score_apply]

theorem weight_apply (x0 : S4x512x4096.Idx → EReal) (x1 : S4x4096x512.Idx → EReal) (x3 : S1x129x8.Idx → EReal) (b : Fin 4) (c : Fin 64) (h : Fin 8)
    (q : Fin 64) (k : Fin 576) : val_main_v82 (F := Ideal) x0 x1 x3 (ix5 b c h q k)
      = Ideal.exp (score x0 x1 x3 b c h q k - Finset.univ.sup fun k : Fin 576 => score x0 x1 x3 b c h q k) := by
  rw [← max_apply, ← score_apply]
  unfold val_main_v82 val_main_v81 val_main_v80 val_main_v79
  generalize val_main_v78 (F := Ideal) x0 x1 x3 = y
  generalize val_main_v75 (F := Ideal) x0 x1 x3 = z
  pointwise

theorem total_apply (x0 : S4x512x4096.Idx → EReal) (x1 : S4x4096x512.Idx → EReal) (x3 : S1x129x8.Idx → EReal) (b : Fin 4) (c : Fin 64) (h : Fin 8)
    (q : Fin 64) : val_main_v83 (F := Ideal) x0 x1 x3 (ix4 b c h q) = ∑ k : Fin 576, val_main_v82 (F := Ideal) x0 x1 x3 (ix5 b c h q k) := by
  unfold val_main_v83 val_main_cst_16
  generalize val_main_v82 (F := Ideal) x0 x1 x3 = y
  exact rowSum y b c h q

theorem prob_apply (x0 : S4x512x4096.Idx → EReal) (x1 : S4x4096x512.Idx → EReal) (x3 : S1x129x8.Idx → EReal) (b : Fin 4) (c : Fin 64) (h : Fin 8)
    (q : Fin 64) (k : Fin 576) : val_main_v86 (F := Ideal) x0 x1 x3 (ix5 b c h q k)
      = Ideal.div (Ideal.exp (score x0 x1 x3 b c h q k - Finset.univ.sup fun k : Fin 576 => score x0 x1 x3 b c h q k))
          (∑ k : Fin 576, Ideal.exp (score x0 x1 x3 b c h q k - Finset.univ.sup fun k : Fin 576 => score x0 x1 x3 b c h q k)) := by
  have e : val_main_v86 (F := Ideal) x0 x1 x3 (ix5 b c h q k)
      = Ideal.div (val_main_v82 (F := Ideal) x0 x1 x3 (ix5 b c h q k)) (val_main_v83 (F := Ideal) x0 x1 x3 (ix4 b c h q)) := by
    unfold val_main_v86 val_main_v85 val_main_v84
    generalize val_main_v82 (F := Ideal) x0 x1 x3 = y
    generalize val_main_v83 (F := Ideal) x0 x1 x3 = z
    pointwise
  rw [e, total_apply]
  simp only [weight_apply]

theorem attend_apply (x0 : S4x512x4096.Idx → EReal) (x1 : S4x4096x512.Idx → EReal) (x2 : S4x512x4096.Idx → EReal) (x3 : S1x129x8.Idx → EReal)
    (b : Fin 4) (c : Fin 64) (h : Fin 8) (d q : Fin 64) : val_main_v87 (F := Ideal) x0 x1 x2 x3 (ix5 b c h d q)
      = ∑ k : Fin 576, val_main_v35 (F := Ideal) x2 (ix5 b c k h d) * val_main_v86 (F := Ideal) x0 x1 x3 (ix5 b c h q k) := by
  unfold val_main_v87
  pointwise

theorem result_apply (x0 : S4x512x4096.Idx → EReal) (x1 : S4x4096x512.Idx → EReal) (x2 : S4x512x4096.Idx → EReal) (x3 : S1x129x8.Idx → EReal)
    (b : Fin 4) (l : Fin 512) (x : Fin 4096) : val_main_v91 (F := Ideal) x0 x1 x2 x3 (ix3 b l x)
      = val_main_v87 (F := Ideal) x0 x1 x2 x3 (ix5 b (⟨x.val / 64, by omega⟩ : Fin 64) (⟨l.val / 64, by omega⟩ : Fin 8)
          (⟨l.val % 64, by omega⟩ : Fin 64) (⟨x.val % 64, by omega⟩ : Fin 64)) := by
  unfold val_main_v91 val_main_v90 val_main_v89 val_main_v88
  generalize val_main_v87 (F := Ideal) x0 x1 x2 x3 = y
  pointwise

end Cert.ReferenceIdeal.Band

end
-- ==== Proof.BandLink.lean ====
/- The kernel's result is the reference's, where queries, keys and the bias table are finite; and the precondition says they are. -/
module

public import proofs.«01_k».proof.Proof.BandMath
public import proofs.«01_k».proof.Proof.RefResult
public import proofs.«01_k».proof.Pre_finite_logits

@[expose] public section

noncomputable section

namespace Cert.Band

open Idealize.ShloMosaic Cert.KernelIdeal Cert.KernelIdeal.Band

/-- An extended real whose absolute value is below infinity is neither infinity. -/
theorem finite_of_lt (x : EReal) (h : Ideal.cmp .olt (max x (-x)) (Ideal.ofBits .f32 0x7F800000#32) = 1#1) : x ≠ ⊥ ∧ x ≠ ⊤ := by
  have e : Ideal.ofBits .f32 0x7F800000#32 = ⊤ := by simp [Ideal.ofBits, Ideal.ieee]
  rw [e] at h
  constructor
  · rintro rfl
    simp [Ideal.cmp] at h
  · rintro rfl
    simp [Ideal.cmp] at h

/-- The precondition's functions say that every entry of the queries, the keys and the bias table is finite. -/
theorem finite_of_pre [Cert.Pre_finite_logits.Facts] (Q : S4x512x4096.Idx → EReal) (K : S4x4096x512.Idx → EReal) (V : S4x512x4096.Idx → EReal)
    (T : S1x129x8.Idx → EReal)
    (h : (Cert.Pre_finite_logits.fn (F := Ideal) Q K V T).1 = (fun _ => 1#1) ∧ (Cert.Pre_finite_logits.fn (F := Ideal) Q K V T).2.1 = (fun _ => 1#1)
      ∧ (Cert.Pre_finite_logits.fn (F := Ideal) Q K V T).2.2 = (fun _ => 1#1)) :
    (∀ i, Q i ≠ ⊥ ∧ Q i ≠ ⊤) ∧ (∀ i, K i ≠ ⊥ ∧ K i ≠ ⊤) ∧ ∀ i, T i ≠ ⊥ ∧ T i ≠ ⊤ :=
  ⟨fun i => finite_of_lt (Q i) (congrFun h.1 i), fun i => finite_of_lt (K i) (congrFun h.2.1 i), fun i => finite_of_lt (T i) (congrFun h.2.2 i)⟩

/-- The reference's score is the band score of the query at `64 * (x / 64) + x % 64`. -/
theorem score_eq (Q : S4x512x4096.Idx → EReal) (K : S4x4096x512.Idx → EReal) (T : S1x129x8.Idx → EReal) (b : Fin 4) (h : Fin 8)
    (x : Fin 4096) (k : Fin 576) :
    Cert.ReferenceIdeal.Band.score Q K T b (⟨x.val / 64, by omega⟩ : Fin 64) h (⟨x.val % 64, by omega⟩ : Fin 64) k = bandScore Q K T b h x k := by
  unfold Cert.ReferenceIdeal.Band.score bandScore
  have e : (⟨64 * (x.val / 64) + x.val % 64, by omega⟩ : Fin 4096) = x := Fin.ext (by dsimp only; omega)
  dsimp only
  rw [e]

/-- The reference's result is the kernel's. -/
theorem reference_eq (Q : S4x512x4096.Idx → EReal) (K : S4x4096x512.Idx → EReal) (V : S4x512x4096.Idx → EReal) (T : S1x129x8.Idx → EReal)
    (hQ : ∀ i, Q i ≠ ⊥ ∧ Q i ≠ ⊤) (hK : ∀ i, K i ≠ ⊥ ∧ K i ≠ ⊤) (hT : ∀ i, T i ≠ ⊥ ∧ T i ≠ ⊤) (b : Fin 4) (l : Fin 512) (x : Fin 4096) :
    Cert.ReferenceIdeal.Read.val_main_v91 (F := Ideal) Q K V T (ix3 b l x) = bandResult Q K V T b l x := by
  rw [Cert.ReferenceIdeal.Band.result_apply, Cert.ReferenceIdeal.Band.attend_apply, bandResult_eq Q K V T hQ hK hT b l x]
  refine Finset.sum_congr rfl fun k _ => ?_
  rw [Cert.ReferenceIdeal.Band.prob_apply, Cert.ReferenceIdeal.Band.values_apply]
  have el : (⟨64 * (l.val / 64) + l.val % 64, by omega⟩ : Fin 512) = l := Fin.ext (by dsimp only; omega)
  simp only [score_eq]
  unfold bandValue
  rw [el]

end Cert.Band

end
-- ==== Proof.ProjWeights.lean ====
/- The two weight arrays the host packs for the projection: each column of the one, and each row of the other, is a column of the
   layer's input weights, some of them times a constant. -/
module

public import proofs.«01_k».proof.Proof.Gen.Kernel2Ideal.Value
public import Idealize.ShloMosaic.Lib.Pointwise
public import Idealize.ShloMosaic.Lib.StableHlo

@[expose] public section

noncomputable section

namespace Cert.Kernel2Ideal.Proj

open Idealize.ShloMosaic Idealize.ShloMosaic.TcCoe Cert.Kernel2Ideal Cert.Kernel2Ideal.Gen

/-- The weight column in column `j` of the first packed array. -/
def fromRow (j : ℕ) : ℕ :=
  if j < 512 then 512 + j else if j < 640 then 2048 + (j - 512) else if j < 768 then 2176 + (j - 640) else 2816 + (j - 768)

/-- The weight column in row `j` of the second packed array. -/
def fromCol (j : ℕ) : ℕ :=
  if j < 512 then j else if j < 1024 then 1024 + (j - 512) else if j < 1536 then 1536 + (j - 1024) else if j < 2048 then 2304 + (j - 1536)
  else 2880 + (j - 2048)

theorem fromRow_lt {j : ℕ} (h : j < 832) : fromRow j < 2888 := by unfold fromRow; split_ifs <;> omega

theorem fromCol_lt {j : ℕ} (h : j < 2056) : fromCol j < 2888 := by unfold fromCol; split_ifs <;> omega

/-- The constant that the queries' columns are multiplied by. -/
def scale : EReal := Ideal.ofBits .f32 0x3E000000#32

theorem times_scale {a b : EReal} {p : Prop} [Decidable p] (hp : p) (h : a = b) : a * scale = b * if p then scale else 1 := by
  rw [if_pos hp, h]

theorem times_one {a b : EReal} {p : Prop} [Decidable p] (hp : ¬p) (h : a = b) : a = b * if p then scale else 1 := by
  rw [if_neg hp, h, mul_one]

variable (m : (ℓ : Loc nD τ sig) → Buf (Elt Ideal) ℓ) (c : Dev nD)

theorem row_weights (d : Fin 1024) (j : Fin 896) (h : j.val < 832) :
    (V m c main_v10 : S1024x896.Idx → EReal) (ix2 d j)
      = (m ((c : Thread nD τ).loc main_arg1) : S1x1024x2888.Idx → EReal) (ix3 (0 : Fin 1) d ⟨fromRow j.val, fromRow_lt h⟩) := by
  unfold V
  simp only [List.flatten_cons, List.flatten_nil, List.append_nil, List.cons_append, List.nil_append,
    StableHlo.TRef.nullary, StableHlo.TRef.binary, StableHlo.TRef.ternary, StableHlo.TRef.unary, StableHlo.TRef.toBuf, StableHlo.TRef.ofBuf, cast_eq]
  after_results_simp
  pointwise
  rw [dif_pos (by omega)]
  split_ifs <;> after_results_simp <;> pointwise
  all_goals exact congrArg (m _) (congrArg (ix3 (0 : Fin 1) d) (Fin.ext (by unfold fromRow; dsimp only; split_ifs <;> omega)))

theorem col_weights (d : Fin 1024) (j : Fin 2064) (h : j.val < 2056) :
    (V m c main_v28 : S2064x1024.Idx → EReal) (ix2 j d)
      = @HMul.hMul EReal EReal EReal _ (m ((c : Thread nD τ).loc main_arg1) (ix3 (0 : Fin 1) d ⟨fromCol j.val, fromCol_lt h⟩))
         (if j.val < 512 ∨ (1024 ≤ j.val ∧ j.val < 1536) then scale else 1) := by
  unfold V
  simp only [List.flatten_cons, List.flatten_nil, List.append_nil, List.cons_append, List.nil_append,
    StableHlo.TRef.nullary, StableHlo.TRef.binary, StableHlo.TRef.ternary, StableHlo.TRef.unary, StableHlo.TRef.toBuf, StableHlo.TRef.ofBuf, cast_eq]
  after_results_simp
  pointwise
  rw [dif_pos (by omega)]
  have e : ∀ a b : Fin 2888, a.val = b.val → (m ((c : Thread nD τ).loc main_arg1) : S1x1024x2888.Idx → EReal) (ix3 (0 : Fin 1) d a)
      = m ((c : Thread nD τ).loc main_arg1) (ix3 (0 : Fin 1) d b) := fun a b h => by rw [Fin.ext h]
  split_ifs <;> after_results_simp <;> pointwise
  all_goals first
    | exact times_scale (by omega) (e _ _ (by unfold fromCol; dsimp only; split_ifs <;> omega))
    | exact times_one (by omega) (e _ _ (by unfold fromCol; dsimp only; split_ifs <;> omega))

end Cert.Kernel2Ideal.Proj

end
-- ==== Proof.ProjBlock.lean ====
/- What one point of the projection's grid computes from its block of rows and the packed weights. -/
module

public import proofs.«01_k».proof.Proof.ProjWeights
public import Idealize.ShloMosaic.Lib.Pipeline.ValueKit

@[expose] public section

noncomputable section

namespace Cert.Kernel2Ideal.Proj

open Idealize.ShloMosaic Idealize.ShloMosaic.TcCoe Cert.Kernel2Ideal Cert.Kernel2Ideal.Gen

variable (x0 : Vec Ideal S1x512x1024 .f32) (x1 : Vec Ideal S1024x896 .bf16) (x2 : Vec Ideal S2064x1024 .bf16)

/-- Row `r` of the block times column `j` of the first packed array. -/
def rowDot (r : Fin 512) (j : Fin 896) : EReal := ∑ d : Fin 1024, (x0 (ix3 (0 : Fin 1) r d) : EReal) * x1 (ix2 d j)

/-- Row `j` of the second packed array times row `r` of the block. -/
def colDot (r : Fin 512) (j : Fin 2064) : EReal := ∑ d : Fin 1024, (x2 (ix2 j d) : EReal) * x0 (ix3 (0 : Fin 1) r d)

variable (r : Fin 512)

theorem out3_apply (j : Fin 512) : out0_3 x0 x1 x2 (ix3 (0 : Fin 1) r j) = rowDot x0 x1 r ⟨j.val, by omega⟩ := by
  frame_out
  pointwise [k0_pay6, k0_pay5, k0_pay4]
  rfl

theorem out4_apply (j : Fin 128) : out0_4 x0 x1 x2 (ix3 (0 : Fin 1) r j) = rowDot x0 x1 r ⟨512 + j.val, by omega⟩ := by
  frame_out
  pointwise [k0_pay9, k0_pay8, k0_pay4]
  rfl

theorem out5_apply (j : Fin 64) : out0_5 x0 x1 x2 (ix3 (0 : Fin 1) r j) = rowDot x0 x1 r ⟨512 + (256 + j.val), by omega⟩ := by
  frame_out
  pointwise [k0_pay14, k0_pay12, k0_pay8, k0_pay4, k0_pay21]
  rfl

theorem out6_apply (j : Fin 512) : out0_6 x0 x1 x2 (ix3 (0 : Fin 1) r j) = rowDot x0 x1 r ⟨j.val, by omega⟩ := by
  frame_out
  pointwise [k0_pay7, k0_pay5, k0_pay4]
  rfl

theorem out7_apply (j : Fin 128) : out0_7 x0 x1 x2 (ix3 (0 : Fin 1) r j) = rowDot x0 x1 r ⟨512 + j.val, by omega⟩ := by
  frame_out
  pointwise [k0_pay10, k0_pay8, k0_pay4]
  rfl

theorem out8_apply (j : Fin 128) : out0_8 x0 x1 x2 (ix3 (0 : Fin 1) r j) = rowDot x0 x1 r ⟨512 + (128 + j.val), by omega⟩ := by
  frame_out
  pointwise [k0_pay11, k0_pay8, k0_pay4]
  rfl

theorem out9_apply (j : Fin 64) : out0_9 x0 x1 x2 (ix3 (0 : Fin 1) r j) = rowDot x0 x1 r ⟨512 + (256 + j.val), by omega⟩ := by
  frame_out
  pointwise [k0_pay13, k0_pay12, k0_pay8, k0_pay4, k0_pay21]
  rfl

theorem out10_apply (j : Fin 512) : out0_10 x0 x1 x2 (ix3 (0 : Fin 1) j r) = colDot x0 x2 r ⟨j.val, by omega⟩ := by
  frame_out
  pointwise [k0_pay15, k0_pay4, k0_pay20]
  rfl

theorem out11_apply (j : Fin 512) : out0_11 x0 x1 x2 (ix3 (0 : Fin 1) j r) = colDot x0 x2 r ⟨512 + j.val, by omega⟩ := by
  frame_out
  pointwise [k0_pay17, k0_pay16, k0_pay4, k0_pay20]
  rfl

theorem out12_apply (j : Fin 512) : out0_12 x0 x1 x2 (ix3 (0 : Fin 1) j r) = colDot x0 x2 r ⟨512 + j.val, by omega⟩ := by
  frame_out
  pointwise [k0_pay18, k0_pay16, k0_pay4, k0_pay20]
  rfl

theorem out13_apply (j : Fin 512) : out0_13 x0 x1 x2 (ix3 (0 : Fin 1) j r) = colDot x0 x2 r ⟨1024 + j.val, by omega⟩ := by
  frame_out
  pointwise [k0_pay1, k0_pay19, k0_pay4, k0_pay20]
  rfl

theorem out14_apply (j : Fin 512) : out0_14 x0 x1 x2 (ix3 (0 : Fin 1) j r) = colDot x0 x2 r ⟨1536 + j.val, by omega⟩ := by
  frame_out
  pointwise [k0_pay2, k0_pay4, k0_pay20]
  rfl

theorem out15_apply (j : Fin 8) : out0_15 x0 x1 x2 (ix3 (0 : Fin 1) j r) = colDot x0 x2 r ⟨2048 + j.val, by omega⟩ := by
  frame_out
  pointwise [k0_pay3, k0_pay4, k0_pay20]
  rfl

end Cert.Kernel2Ideal.Proj

end
-- ==== Proof.ProjRef.lean ====
/- The reference of the projection: each result is columns of the product of the rows with the layer's input weights. -/
module

public import proofs.«01_k».proof.Proof.Gen.Reference2Ideal.Read
public import Idealize.ShloMosaic.Lib.Pointwise
public import Idealize.ShloMosaic.Lib.StableHlo

@[expose] public section

noncomputable section

namespace Cert.Reference2Ideal.Proj

open Idealize.ShloMosaic Cert.Reference2Ideal Cert.Reference2Ideal.Read

variable (X : S4x4096x1024.Idx → EReal) (W : S1x1024x2888.Idx → EReal) (b : Fin 4)

/-- Row `n` of batch `b` times column `j` of the weights. -/
def proj (n : Fin 4096) (j : Fin 2888) : EReal := ∑ d : Fin 1024, X (ix3 b n d) * W (ix3 (0 : Fin 1) d j)

theorem weights_apply (d : Fin 1024) (j : Fin 2888) : val_main_v0 (F := Ideal) W (ix2 d j) = W (ix3 (0 : Fin 1) d j) := by
  unfold val_main_v0
  pointwise

theorem product_apply (n : Fin 4096) (j : Fin 2888) : val_main_v1 (F := Ideal) X W (ix3 b n j) = proj X W b n j := by
  refine (val_main_v1_apply X W (ix3 b n j)).trans (Finset.sum_congr rfl fun d _ => ?_)
  refine congrArg₂ (· * ·) (congrArg X ?_) (Eq.trans (congrArg (val_main_v0 (F := Ideal) W) ?_) (weights_apply W d j))
  · funext a; match a with | ⟨0, _⟩ => rfl | ⟨1, _⟩ => rfl | ⟨2, _⟩ => rfl
  · funext a; match a with | ⟨0, _⟩ => rfl | ⟨1, _⟩ => rfl

theorem v11_apply (n : Fin 4096) (j : Fin 512) : val_main_v11 (F := Ideal) X W (ix3 b n j) = proj X W b n ⟨512 + j.val, by omega⟩ := by
  have h := product_apply X W b
  revert h
  unfold val_main_v11 val_main_v3
  generalize val_main_v1 (F := Ideal) X W = y
  intro h
  pointwise
  exact h _ _

theorem v12_apply (n : Fin 4096) (j : Fin 128) : val_main_v12 (F := Ideal) X W (ix3 b n j) = proj X W b n ⟨2048 + j.val, by omega⟩ := by
  have h := product_apply X W b
  revert h
  unfold val_main_v12 val_main_v6
  generalize val_main_v1 (F := Ideal) X W = y
  intro h
  pointwise
  exact h _ _

theorem v13_apply (n : Fin 4096) (j : Fin 64) : val_main_v13 (F := Ideal) X W (ix3 b n j) = proj X W b n ⟨2816 + j.val, by omega⟩ := by
  have h := product_apply X W b
  revert h
  unfold val_main_v13 val_main_v9
  generalize val_main_v1 (F := Ideal) X W = y
  intro h
  pointwise
  exact h _ _

theorem v14_apply (n : Fin 512) (j : Fin 512) : val_main_v14 (F := Ideal) X W (ix3 b n j) = proj X W b ⟨3584 + n.val, by omega⟩ ⟨512 + j.val, by omega⟩ := by
  have h := product_apply X W b
  revert h
  unfold val_main_v14 val_main_v3
  generalize val_main_v1 (F := Ideal) X W = y
  intro h
  pointwise
  exact h _ _

theorem v6_apply (n : Fin 4096) (j : Fin 128) : val_main_v6 (F := Ideal) X W (ix3 b n j) = proj X W b n ⟨2048 + j.val, by omega⟩ := by
  have h := product_apply X W b
  revert h
  unfold val_main_v6
  generalize val_main_v1 (F := Ideal) X W = y
  intro h
  pointwise
  exact h _ _

theorem v7_apply (n : Fin 4096) (j : Fin 128) : val_main_v7 (F := Ideal) X W (ix3 b n j) = proj X W b n ⟨2176 + j.val, by omega⟩ := by
  have h := product_apply X W b
  revert h
  unfold val_main_v7
  generalize val_main_v1 (F := Ideal) X W = y
  intro h
  pointwise
  exact h _ _

theorem v9_apply (n : Fin 4096) (j : Fin 64) : val_main_v9 (F := Ideal) X W (ix3 b n j) = proj X W b n ⟨2816 + j.val, by omega⟩ := by
  have h := product_apply X W b
  revert h
  unfold val_main_v9
  generalize val_main_v1 (F := Ideal) X W = y
  intro h
  pointwise
  exact h _ _

theorem v18_apply (n : Fin 4096) (j : Fin 512) : val_main_v18 (F := Ideal) X W (ix3 b j n) = proj X W b n ⟨j.val, by omega⟩ * Ideal.ofBits .f32 0x3E000000#32 := by
  have h := product_apply X W b
  revert h
  unfold val_main_v18 val_main_v17 val_main_v16 val_main_v15 val_main_cst val_main_v2
  generalize val_main_v1 (F := Ideal) X W = y
  intro h
  pointwise
  exact congrArg (· * _) (h _ _)

theorem v20_apply (n : Fin 4096) (j : Fin 512) : val_main_v20 (F := Ideal) X W (ix3 b j n) = proj X W b n ⟨1024 + j.val, by omega⟩ := by
  have h := product_apply X W b
  revert h
  unfold val_main_v20 val_main_v19 val_main_v4
  generalize val_main_v1 (F := Ideal) X W = y
  intro h
  pointwise
  exact h _ _

theorem v22_apply (n : Fin 512) (j : Fin 512) : val_main_v22 (F := Ideal) X W (ix3 b j n) = proj X W b ⟨3584 + n.val, by omega⟩ ⟨1024 + j.val, by omega⟩ := by
  have h := product_apply X W b
  revert h
  unfold val_main_v22 val_main_v21 val_main_v4
  generalize val_main_v1 (F := Ideal) X W = y
  intro h
  pointwise
  exact h _ _

theorem v26_apply (n : Fin 4096) (j : Fin 512) : val_main_v26 (F := Ideal) X W (ix3 b j n) = proj X W b n ⟨1536 + j.val, by omega⟩ * Ideal.ofBits .f32 0x3E000000#32 := by
  have h := product_apply X W b
  revert h
  unfold val_main_v26 val_main_v25 val_main_v24 val_main_v23 val_main_cst_0 val_main_v5
  generalize val_main_v1 (F := Ideal) X W = y
  intro h
  pointwise
  exact congrArg (· * _) (h _ _)

theorem v28_apply (n : Fin 4096) (j : Fin 512) : val_main_v28 (F := Ideal) X W (ix3 b j n) = proj X W b n ⟨2304 + j.val, by omega⟩ := by
  have h := product_apply X W b
  revert h
  unfold val_main_v28 val_main_v27 val_main_v8
  generalize val_main_v1 (F := Ideal) X W = y
  intro h
  pointwise
  exact h _ _

theorem v29_apply (n : Fin 4096) (j : Fin 8) : val_main_v29 (F := Ideal) X W (ix3 b j n) = proj X W b n ⟨2880 + j.val, by omega⟩ := by
  have h := product_apply X W b
  revert h
  unfold val_main_v29 val_main_v10
  generalize val_main_v1 (F := Ideal) X W = y
  intro h
  pointwise
  exact h _ _

end Cert.Reference2Ideal.Proj

end
-- ==== Proof.ProjArray.lean ====
/- The projection's result arrays: each is the reference's. -/
module

public import proofs.«01_k».proof.Proof.ProjBlock
public import proofs.«01_k».proof.Proof.ProjRef

@[expose] public section

noncomputable section

namespace Cert.Kernel2Ideal.Proj

open Idealize.ShloMosaic Idealize.ShloMosaic.TcCoe Cert.Kernel2Ideal Cert.Kernel2Ideal.Gen Cert.Kernel2Ideal.Value
open Cert.Reference2Ideal.Proj Cert.Reference2Ideal.Read

/-- A sum times a nonnegative finite number is the sum of the products. -/
theorem sum_mul_const {ι : Type} (s : Finset ι) (f : ι → EReal) (a : EReal) (h0 : 0 ≤ a) (h1 : a ≠ ⊤) :
    ∑ i ∈ s, f i * a = (∑ i ∈ s, f i) * a := by
  classical
  induction s using Finset.induction_on with
  | empty => simp
  | insert i s hi ih => rw [Finset.sum_insert hi, Finset.sum_insert hi, ih, EReal.right_distrib_of_nonneg_of_ne_top h0 h1]

theorem scale_eq : scale = ((1 / 8 : ℝ) : EReal) := by
  unfold scale
  simp [Ideal.ofBits, Ideal.ieee]
  rw [← EReal.coe_mul]
  norm_num

variable (m : (ℓ : Loc nD τ sig) → Buf (Elt Ideal) ℓ) (c : Dev nD)

theorem index_x : ∀ t : Fin cfg0.N, win0_0.index t = ![t.val / 8, t.val % 8, 0] := (by decide +kernel : ∀ t : Fin grid0.N, _)
theorem index_row : ∀ t : Fin cfg0.N, win0_1.index t = ![0, 0] := (by decide +kernel : ∀ t : Fin grid0.N, _)
theorem index_col : ∀ t : Fin cfg0.N, win0_2.index t = ![0, 0] := (by decide +kernel : ∀ t : Fin grid0.N, _)

theorem batch_lt (t : Fin cfg0.N) : t.val / 8 < 4 := by
  have hN : cfg0.N = 32 := N_0
  have := t.isLt
  omega

theorem block_x (t : Fin cfg0.N) (r : Fin 512) (d : Fin 1024) :
    (iblk m c 0 t : Vec Ideal S1x512x1024 .f32) (ix3 (0 : Fin 1) r d)
      = m ((c : Thread nD τ).loc main_arg0) (ix3 (⟨t.val / 8, batch_lt t⟩ : Fin 4) (⟨512 * (t.val % 8) + r.val, by omega⟩ : Fin 4096) d) := by
  blk_simp [iblk]
  rw [V_main_arg0]
  refine congrArg (m ((c : Thread nD τ).loc main_arg0)) ?_
  blk_ext [index_x]

theorem block_row (t : Fin cfg0.N) : (iblk m c 1 t : Vec Ideal S1024x896 .bf16) = V m c main_v10 := by
  funext y
  blk_simp [iblk]
  refine congrArg (V m c main_v10) ?_
  blk_ext [index_row]

theorem block_col (t : Fin cfg0.N) : (iblk m c 2 t : Vec Ideal S2064x1024 .bf16) = V m c main_v28 := by
  funext y
  blk_simp [iblk]
  refine congrArg (V m c main_v28) ?_
  blk_ext [index_col]

theorem row_block (t : Fin cfg0.N) (r : Fin 512) (j : Fin 896) (k : Fin 2888) (h : j.val < 832) (hk : k.val = fromRow j.val) :
    rowDot (iblk m c 0 t) (iblk m c 1 t) r j
      = proj (m ((c : Thread nD τ).loc main_arg0)) (m ((c : Thread nD τ).loc main_arg1)) ⟨t.val / 8, batch_lt t⟩
          ⟨512 * (t.val % 8) + r.val, by omega⟩ k := by
  have e : k = ⟨fromRow j.val, fromRow_lt h⟩ := Fin.ext hk
  unfold rowDot proj
  refine Finset.sum_congr rfl fun d _ => ?_
  rw [block_row, block_x, row_weights m c d j h, e]

theorem col_block (t : Fin cfg0.N) (r : Fin 512) (j : Fin 2064) (k : Fin 2888) (h : j.val < 2056) (hk : k.val = fromCol j.val) :
    colDot (iblk m c 0 t) (iblk m c 2 t) r j
      = proj (m ((c : Thread nD τ).loc main_arg0)) (m ((c : Thread nD τ).loc main_arg1)) ⟨t.val / 8, batch_lt t⟩
          ⟨512 * (t.val % 8) + r.val, by omega⟩ k * if j.val < 512 ∨ (1024 ≤ j.val ∧ j.val < 1536) then scale else 1 := by
  have e : k = ⟨fromCol j.val, fromCol_lt h⟩ := Fin.ext hk
  unfold colDot proj
  rw [← sum_mul_const]
  · refine Finset.sum_congr rfl fun d _ => ?_
    rw [block_col, block_x, col_weights m c d j h, e]
    exact (mul_comm (G := EReal) _ _).trans (mul_assoc (G := EReal) _ _ _).symm
  · rw [scale_eq]
    split_ifs
    · exact_mod_cast (by norm_num : (0 : ℝ) ≤ 1 / 8)
    · exact zero_le_one
  · rw [scale_eq]
    split_ifs
    · exact EReal.coe_ne_top _
    · exact EReal.coe_ne_top 1

/-- A block of rows of the product, and the array it is a block of. -/
theorem rows_at {w : ℕ} (t : Fin cfg0.N) (o : ℕ) (ho : o + w ≤ 2888) (f : (⟨3, ![1, 512, w]⟩ : Shape).Idx → EReal)
    (G : (⟨3, ![4, 4096, w]⟩ : Shape).Idx → EReal) (col : Fin w → Fin 896)
    (hcol : ∀ j : Fin w, (col j).val < 832 ∧ o + j.val = fromRow (col j).val)
    (hf : ∀ (r : Fin 512) (j : Fin w), f (ix3 (0 : Fin 1) r j) = rowDot (iblk m c 0 t) (iblk m c 1 t) r (col j))
    (hG : ∀ (b : Fin 4) (n : Fin 4096) (j : Fin w), G (ix3 b n j)
      = proj (m ((c : Thread nD τ).loc main_arg0)) (m ((c : Thread nD τ).loc main_arg1)) b n ⟨o + j.val, by omega⟩)
    (y : (⟨3, ![1, 512, w]⟩ : Shape).Idx) (i : (⟨3, ![4, 4096, w]⟩ : Shape).Idx)
    (h0 : (i 0).val = t.val / 8) (h1 : (i 1).val = 512 * (t.val % 8) + (y 1).val) (h2 : (i 2).val = (y 2).val) : f y = G i := by
  have hy1 : (y 1).val < 512 := (y 1).isLt
  have ey : y = ix3 (0 : Fin 1) (y 1) (y 2) := by
    refine (eq_ix3 y).trans (congrArg (fun a => ix3 a (y 1) (y 2)) (Subsingleton.elim (α := Fin 1) _ _))
  have ei : i = ix3 (⟨t.val / 8, batch_lt t⟩ : Fin 4) (⟨512 * (t.val % 8) + (y 1).val, by omega⟩ : Fin 4096) (y 2) := by
    funext a
    apply Fin.ext
    match a with
    | ⟨0, _⟩ => exact h0
    | ⟨1, _⟩ => exact h1
    | ⟨2, _⟩ => exact h2
  have key : ∀ (r : Fin 512) (j : Fin w), f (ix3 (0 : Fin 1) r j)
      = G (ix3 (⟨t.val / 8, batch_lt t⟩ : Fin 4) (⟨512 * (t.val % 8) + r.val, by omega⟩ : Fin 4096) j) := fun r j => by
    rw [hf, hG]
    exact row_block m c t _ _ _ (hcol _).1 (hcol _).2
  rw [ey, ei]
  exact key (y 1) (y 2)

/-- The same of the last block of rows, of an array that holds only that block. -/
theorem last_rows_at {w : ℕ} (t : Fin cfg0.N) (o : ℕ) (ho : o + w ≤ 2888) (f : (⟨3, ![1, 512, w]⟩ : Shape).Idx → EReal)
    (G : (⟨3, ![4, 512, w]⟩ : Shape).Idx → EReal) (col : Fin w → Fin 896)
    (hcol : ∀ j : Fin w, (col j).val < 832 ∧ o + j.val = fromRow (col j).val)
    (hf : ∀ (r : Fin 512) (j : Fin w), f (ix3 (0 : Fin 1) r j) = rowDot (iblk m c 0 t) (iblk m c 1 t) r (col j))
    (hG : ∀ (b : Fin 4) (n : Fin 512) (j : Fin w), G (ix3 b n j)
      = proj (m ((c : Thread nD τ).loc main_arg0)) (m ((c : Thread nD τ).loc main_arg1)) b ⟨3584 + n.val, by omega⟩ ⟨o + j.val, by omega⟩)
    (ht : t.val % 8 = 7) (y : (⟨3, ![1, 512, w]⟩ : Shape).Idx) (i : (⟨3, ![4, 512, w]⟩ : Shape).Idx)
    (h0 : (i 0).val = t.val / 8) (h1 : (i 1).val = (y 1).val) (h2 : (i 2).val = (y 2).val) : f y = G i := by
  have hy1 : (y 1).val < 512 := (y 1).isLt
  have ey : y = ix3 (0 : Fin 1) (y 1) (y 2) := by
    refine (eq_ix3 y).trans (congrArg (fun a => ix3 a (y 1) (y 2)) (Subsingleton.elim (α := Fin 1) _ _))
  have ei : i = ix3 (⟨t.val / 8, batch_lt t⟩ : Fin 4) (y 1) (y 2) := by
    funext a
    apply Fin.ext
    match a with
    | ⟨0, _⟩ => exact h0
    | ⟨1, _⟩ => exact h1
    | ⟨2, _⟩ => exact h2
  have key : ∀ (r : Fin 512) (j : Fin w), f (ix3 (0 : Fin 1) r j) = G (ix3 (⟨t.val / 8, batch_lt t⟩ : Fin 4) r j) := fun r j => by
    rw [hf, hG]
    refine (row_block m c t _ _ ⟨o + j.val, by omega⟩ (hcol _).1 (hcol _).2).trans ?_
    exact congrArg (fun n => proj (m ((c : Thread nD τ).loc main_arg0)) (m ((c : Thread nD τ).loc main_arg1)) _ n _)
      (Fin.ext (by dsimp only; omega))
  rw [ey, ei]
  exact key (y 1) (y 2)

/-- The same with rows and columns exchanged, and with the constant that multiplies some of the weights. -/
theorem cols_at {w : ℕ} (t : Fin cfg0.N) (o : ℕ) (ho : o + w ≤ 2888) (s : EReal) (f : (⟨3, ![1, w, 512]⟩ : Shape).Idx → EReal)
    (G : (⟨3, ![4, w, 4096]⟩ : Shape).Idx → EReal) (col : Fin w → Fin 2064)
    (hcol : ∀ j : Fin w, (col j).val < 2056 ∧ o + j.val = fromCol (col j).val
      ∧ (if (col j).val < 512 ∨ (1024 ≤ (col j).val ∧ (col j).val < 1536) then scale else 1) = s)
    (hf : ∀ (r : Fin 512) (j : Fin w), f (ix3 (0 : Fin 1) j r) = colDot (iblk m c 0 t) (iblk m c 2 t) r (col j))
    (hG : ∀ (b : Fin 4) (n : Fin 4096) (j : Fin w), G (ix3 b j n)
      = proj (m ((c : Thread nD τ).loc main_arg0)) (m ((c : Thread nD τ).loc main_arg1)) b n ⟨o + j.val, by omega⟩ * s)
    (y : (⟨3, ![1, w, 512]⟩ : Shape).Idx) (i : (⟨3, ![4, w, 4096]⟩ : Shape).Idx)
    (h0 : (i 0).val = t.val / 8) (h1 : (i 1).val = (y 1).val) (h2 : (i 2).val = 512 * (t.val % 8) + (y 2).val) : f y = G i := by
  have hy2 : (y 2).val < 512 := (y 2).isLt
  have ey : y = ix3 (0 : Fin 1) (y 1) (y 2) := by
    refine (eq_ix3 y).trans (congrArg (fun a => ix3 a (y 1) (y 2)) (Subsingleton.elim (α := Fin 1) _ _))
  have ei : i = ix3 (⟨t.val / 8, batch_lt t⟩ : Fin 4) (y 1) (⟨512 * (t.val % 8) + (y 2).val, by omega⟩ : Fin 4096) := by
    funext a
    apply Fin.ext
    match a with
    | ⟨0, _⟩ => exact h0
    | ⟨1, _⟩ => exact h1
    | ⟨2, _⟩ => exact h2
  have key : ∀ (r : Fin 512) (j : Fin w), f (ix3 (0 : Fin 1) j r)
      = G (ix3 (⟨t.val / 8, batch_lt t⟩ : Fin 4) j (⟨512 * (t.val % 8) + r.val, by omega⟩ : Fin 4096)) := fun r j => by
    rw [hf, hG, ← (hcol j).2.2]
    exact col_block m c t _ _ _ (hcol _).1 (hcol _).2.1
  rw [ey, ei]
  exact key (y 2) (y 1)

/-- The same of the last block. -/
theorem last_cols_at {w : ℕ} (t : Fin cfg0.N) (o : ℕ) (ho : o + w ≤ 2888) (f : (⟨3, ![1, w, 512]⟩ : Shape).Idx → EReal)
    (G : (⟨3, ![4, w, 512]⟩ : Shape).Idx → EReal) (col : Fin w → Fin 2064)
    (hcol : ∀ j : Fin w, (col j).val < 2056 ∧ o + j.val = fromCol (col j).val
      ∧ (if (col j).val < 512 ∨ (1024 ≤ (col j).val ∧ (col j).val < 1536) then scale else 1) = 1)
    (hf : ∀ (r : Fin 512) (j : Fin w), f (ix3 (0 : Fin 1) j r) = colDot (iblk m c 0 t) (iblk m c 2 t) r (col j))
    (hG : ∀ (b : Fin 4) (n : Fin 512) (j : Fin w), G (ix3 b j n)
      = proj (m ((c : Thread nD τ).loc main_arg0)) (m ((c : Thread nD τ).loc main_arg1)) b ⟨3584 + n.val, by omega⟩ ⟨o + j.val, by omega⟩)
    (ht : t.val % 8 = 7) (y : (⟨3, ![1, w, 512]⟩ : Shape).Idx) (i : (⟨3, ![4, w, 512]⟩ : Shape).Idx)
    (h0 : (i 0).val = t.val / 8) (h1 : (i 1).val = (y 1).val) (h2 : (i 2).val = (y 2).val) : f y = G i := by
  have hy2 : (y 2).val < 512 := (y 2).isLt
  have ey : y = ix3 (0 : Fin 1) (y 1) (y 2) := by
    refine (eq_ix3 y).trans (congrArg (fun a => ix3 a (y 1) (y 2)) (Subsingleton.elim (α := Fin 1) _ _))
  have ei : i = ix3 (⟨t.val / 8, batch_lt t⟩ : Fin 4) (y 1) (y 2) := by
    funext a
    apply Fin.ext
    match a with
    | ⟨0, _⟩ => exact h0
    | ⟨1, _⟩ => exact h1
    | ⟨2, _⟩ => exact h2
  have key : ∀ (r : Fin 512) (j : Fin w), f (ix3 (0 : Fin 1) j r) = G (ix3 (⟨t.val / 8, batch_lt t⟩ : Fin 4) j r) := fun r j => by
    rw [hf, hG]
    refine (col_block m c t _ _ ⟨o + j.val, by omega⟩ (hcol _).1 (hcol _).2.1).trans ?_
    rw [(hcol j).2.2, mul_one]
    exact congrArg (fun n => proj (m ((c : Thread nD τ).loc main_arg0)) (m ((c : Thread nD τ).loc main_arg1)) _ n _)
      (Fin.ext (by dsimp only; omega))
  rw [ey, ei]
  exact key (y 2) (y 1)

theorem index_3 : ∀ t : Fin cfg0.N, win0_3.index t = ![t.val / 8, t.val % 8, 0] := (by decide +kernel : ∀ t : Fin grid0.N, _)

theorem final3 : (dats m 0 c).arrAt 3 cfg0.N
    = val_main_v11 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  refine rows_at m c t 512 (by omega) _ _ (fun j : Fin 512 => ⟨j.val, by omega⟩)
    (fun j => ⟨by dsimp only; omega, by unfold fromRow; dsimp only; split_ifs <;> omega⟩)
    (out3_apply _ _ _) (v11_apply _ _) y _ ?_ ?_ ?_ <;> blk_simp [index_3] <;> idx_bounds y <;> omega

theorem index_4 : ∀ t : Fin cfg0.N, win0_4.index t = ![t.val / 8, t.val % 8, 0] := (by decide +kernel : ∀ t : Fin grid0.N, _)

theorem final4 : (dats m 0 c).arrAt 4 cfg0.N
    = val_main_v12 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  refine rows_at m c t 2048 (by omega) _ _ (fun j : Fin 128 => ⟨512 + j.val, by omega⟩)
    (fun j => ⟨by dsimp only; omega, by unfold fromRow; dsimp only; split_ifs <;> omega⟩)
    (out4_apply _ _ _) (v12_apply _ _) y _ ?_ ?_ ?_ <;> blk_simp [index_4] <;> idx_bounds y <;> omega

theorem index_5 : ∀ t : Fin cfg0.N, win0_5.index t = ![t.val / 8, t.val % 8, 0] := (by decide +kernel : ∀ t : Fin grid0.N, _)

theorem final5 : (dats m 0 c).arrAt 5 cfg0.N
    = val_main_v13 (F := Ideal) (m ((c : Thread nD τ).loc main_arg0)) (m ((c : Thread nD τ).loc main_arg1)) := by
  refine (dats m 0 c).arrAt_eq_of_covers 5 _ (by decide +kernel) fun t hf y => ?_
  blk_simp
  rw [after0_5]
  refine rows_at m c t 2816 (by omega) _ _ (fun j : Fin 64 => ⟨512 + (256 + j.val), by omega⟩)
    (fun j => ⟨by dsimp only; omega, by unfold fromRow; dsimp only; split_ifs <;> omega⟩)
    (out5_apply _ _ _) (v13_apply _ _) y _ ?_ ?_ ?_ <;> blk_simp [index_5] <;> idx_bounds y <;> omega

theorem index_6 : ∀ t : Fin cfg0.N, win0_6.index t = ![t.val / 8, 0, 0] := (by decide +kernel : ∀ t : Fin grid0.N, _)

theorem final6 : (dats m 0 c).arrAt 6 cfg0.N
    = val_main_v14 (F := Ideal) (m ((c : Thread nD τ).loc main_arg0)) (m ((c : Thread nD τ).loc main_arg1)) := by
  refine (dats m 0 c).arrAt_eq_of_covers 6 _ (by decide +kernel) fun t hf y => ?_
  blk_simp
  rw [after0_6]
  refine last_rows_at m c t 512 (by omega) _ _ (fun j : Fin 512 => ⟨j.val, by omega⟩)
    (fun j => ⟨by dsimp only; omega, by unfold fromRow; dsimp only; split_ifs <;> omega⟩)
    (out6_apply _ _ _) (v14_apply _ _) ((flush0_6 t).mp hf) y _ ?_ ?_ ?_ <;> blk_simp [index_6] <;> idx_bounds y <;> omega

theorem index_7 : ∀ t : Fin cfg0.N, win0_7.index t = ![t.val / 8, t.val % 8, 0] := (by decide +kernel : ∀ t : Fin grid0.N, _)

theorem final7 : (dats m 0 c).arrAt 7 cfg0.N
    = val_main_v6 (F := Ideal) (m ((c : Thread nD τ).loc main_arg0)) (m ((c : Thread nD τ).loc main_arg1)) := by
  refine (dats m 0 c).arrAt_eq_of_covers 7 _ (by decide +kernel) fun t hf y => ?_
  blk_simp
  rw [after0_7]
  refine rows_at m c t 2048 (by omega) _ _ (fun j : Fin 128 => ⟨512 + j.val, by omega⟩)
    (fun j => ⟨by dsimp only; omega, by unfold fromRow; dsimp only; split_ifs <;> omega⟩)
    (out7_apply _ _ _) (v6_apply _ _) y _ ?_ ?_ ?_ <;> blk_simp [index_7] <;> idx_bounds y <;> omega

theorem index_8 : ∀ t : Fin cfg0.N, win0_8.index t = ![t.val / 8, t.val % 8, 0] := (by decide +kernel : ∀ t : Fin grid0.N, _)

theorem final8 : (dats m 0 c).arrAt 8 cfg0.N
    = val_main_v7 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  refine rows_at m c t 2176 (by omega) _ _ (fun j : Fin 128 => ⟨512 + (128 + j.val), by omega⟩)
    (fun j => ⟨by dsimp only; omega, by unfold fromRow; dsimp only; split_ifs <;> omega⟩)
    (out8_apply _ _ _) (v7_apply _ _) y _ ?_ ?_ ?_ <;> blk_simp [index_8] <;> idx_bounds y <;> omega

theorem index_9 : ∀ t : Fin cfg0.N, win0_9.index t = ![t.val / 8, t.val % 8, 0] := (by decide +kernel : ∀ t : Fin grid0.N, _)

theorem final9 : (dats m 0 c).arrAt 9 cfg0.N
    = val_main_v9 (F := Ideal) (m ((c : Thread nD τ).loc main_arg0)) (m ((c : Thread nD τ).loc main_arg1)) := by
  refine (dats m 0 c).arrAt_eq_of_covers 9 _ (by decide +kernel) fun t hf y => ?_
  blk_simp
  rw [after0_9]
  refine rows_at m c t 2816 (by omega) _ _ (fun j : Fin 64 => ⟨512 + (256 + j.val), by omega⟩)
    (fun j => ⟨by dsimp only; omega, by unfold fromRow; dsimp only; split_ifs <;> omega⟩)
    (out9_apply _ _ _) (v9_apply _ _) y _ ?_ ?_ ?_ <;> blk_simp [index_9] <;> idx_bounds y <;> omega

theorem index_10 : ∀ t : Fin cfg0.N, win0_10.index t = ![t.val / 8, 0, t.val % 8] := (by decide +kernel : ∀ t : Fin grid0.N, _)

theorem final10 : (dats m 0 c).arrAt 10 cfg0.N
    = val_main_v18 (F := Ideal) (m ((c : Thread nD τ).loc main_arg0)) (m ((c : Thread nD τ).loc main_arg1)) := by
  refine (dats m 0 c).arrAt_eq_of_covers 10 _ (by decide +kernel) fun t hf y => ?_
  blk_simp
  rw [after0_10]
  refine cols_at m c t 0 (by omega) scale _ _ (fun j : Fin 512 => ⟨j.val, by omega⟩)
    (fun j => ⟨by dsimp only; omega, by unfold fromCol; dsimp only; split_ifs <;> omega, if_pos (by dsimp only; omega)⟩)
    (out10_apply _ _ _) (fun b n j => (v18_apply _ _ b n j).trans (congrArg (fun k => proj _ _ b n k * _) (Fin.ext (Nat.zero_add _).symm))) y _ ?_ ?_ ?_ <;> blk_simp [index_10] <;> idx_bounds y <;> omega

theorem index_11 : ∀ t : Fin cfg0.N, win0_11.index t = ![t.val / 8, 0, t.val % 8] := (by decide +kernel : ∀ t : Fin grid0.N, _)

theorem final11 : (dats m 0 c).arrAt 11 cfg0.N
    = val_main_v20 (F := Ideal) (m ((c : Thread nD τ).loc main_arg0)) (m ((c : Thread nD τ).loc main_arg1)) := by
  refine (dats m 0 c).arrAt_eq_of_covers 11 _ (by decide +kernel) fun t hf y => ?_
  blk_simp
  rw [after0_11]
  refine cols_at m c t 1024 (by omega) 1 _ _ (fun j : Fin 512 => ⟨512 + j.val, by omega⟩)
    (fun j => ⟨by dsimp only; omega, by unfold fromCol; dsimp only; split_ifs <;> omega, if_neg (by dsimp only; omega)⟩)
    (out11_apply _ _ _) (fun b n j => (v20_apply _ _ b n j).trans (mul_one _).symm) y _ ?_ ?_ ?_ <;> blk_simp [index_11] <;> idx_bounds y <;> omega

theorem index_12 : ∀ t : Fin cfg0.N, win0_12.index t = ![t.val / 8, 0, 0] := (by decide +kernel : ∀ t : Fin grid0.N, _)

theorem final12 : (dats m 0 c).arrAt 12 cfg0.N
    = val_main_v22 (F := Ideal) (m ((c : Thread nD τ).loc main_arg0)) (m ((c : Thread nD τ).loc main_arg1)) := by
  refine (dats m 0 c).arrAt_eq_of_covers 12 _ (by decide +kernel) fun t hf y => ?_
  blk_simp
  rw [after0_12]
  refine last_cols_at m c t 1024 (by omega) _ _ (fun j : Fin 512 => ⟨512 + j.val, by omega⟩)
    (fun j => ⟨by dsimp only; omega, by unfold fromCol; dsimp only; split_ifs <;> omega, if_neg (by dsimp only; omega)⟩)
    (out12_apply _ _ _) (v22_apply _ _) ((flush0_12 t).mp hf) y _ ?_ ?_ ?_ <;> blk_simp [index_12] <;> idx_bounds y <;> omega

theorem index_13 : ∀ t : Fin cfg0.N, win0_13.index t = ![t.val / 8, 0, t.val % 8] := (by decide +kernel : ∀ t : Fin grid0.N, _)

theorem final13 : (dats m 0 c).arrAt 13 cfg0.N
    = val_main_v26 (F := Ideal) (m ((c : Thread nD τ).loc main_arg0)) (m ((c : Thread nD τ).loc main_arg1)) := by
  refine (dats m 0 c).arrAt_eq_of_covers 13 _ (by decide +kernel) fun t hf y => ?_
  blk_simp
  rw [after0_13]
  refine cols_at m c t 1536 (by omega) scale _ _ (fun j : Fin 512 => ⟨1024 + j.val, by omega⟩)
    (fun j => ⟨by dsimp only; omega, by unfold fromCol; dsimp only; split_ifs <;> omega, if_pos (by dsimp only; omega)⟩)
    (out13_apply _ _ _) (v26_apply _ _) y _ ?_ ?_ ?_ <;> blk_simp [index_13] <;> idx_bounds y <;> omega

theorem index_14 : ∀ t : Fin cfg0.N, win0_14.index t = ![t.val / 8, 0, t.val % 8] := (by decide +kernel : ∀ t : Fin grid0.N, _)

theorem final14 : (dats m 0 c).arrAt 14 cfg0.N
    = val_main_v28 (F := Ideal) (m ((c : Thread nD τ).loc main_arg0)) (m ((c : Thread nD τ).loc main_arg1)) := by
  refine (dats m 0 c).arrAt_eq_of_covers 14 _ (by decide +kernel) fun t hf y => ?_
  blk_simp
  rw [after0_14]
  refine cols_at m c t 2304 (by omega) 1 _ _ (fun j : Fin 512 => ⟨1536 + j.val, by omega⟩)
    (fun j => ⟨by dsimp only; omega, by unfold fromCol; dsimp only; split_ifs <;> omega, if_neg (by dsimp only; omega)⟩)
    (out14_apply _ _ _) (fun b n j => (v28_apply _ _ b n j).trans (mul_one _).symm) y _ ?_ ?_ ?_ <;> blk_simp [index_14] <;> idx_bounds y <;> omega

theorem index_15 : ∀ t : Fin cfg0.N, win0_15.index t = ![t.val / 8, 0, t.val % 8] := (by decide +kernel : ∀ t : Fin grid0.N, _)

theorem final15 : (dats m 0 c).arrAt 15 cfg0.N
    = val_main_v29 (F := Ideal) (m ((c : Thread nD τ).loc main_arg0)) (m ((c : Thread nD τ).loc main_arg1)) := by
  refine (dats m 0 c).arrAt_eq_of_covers 15 _ (by decide +kernel) fun t hf y => ?_
  blk_simp
  rw [after0_15]
  refine cols_at m c t 2880 (by omega) 1 _ _ (fun j : Fin 8 => ⟨2048 + j.val, by omega⟩)
    (fun j => ⟨by dsimp only; omega, by unfold fromCol; dsimp only; split_ifs <;> omega, if_neg (by dsimp only; omega)⟩)
    (out15_apply _ _ _) (fun b n j => (v29_apply _ _ b n j).trans (mul_one _).symm) y _ ?_ ?_ ?_ <;> blk_simp [index_15] <;> idx_bounds y <;> omega

end Cert.Kernel2Ideal.Proj

end
-- ==== Proof.FfnMath.lean ====
/- The feed-forward layer's mathematics, over the arrays it is given: the gate's causal convolution over three rows, the gated hidden columns,
   their down projection, the residual and the layer norm. -/
module

public import Idealize.ShloMosaic.PureOps.Ideal.Laws
public import Idealize.ShloMosaic.Lib.ValueIdx
public import Idealize.ShloMosaic.Lib.Pointwise

@[expose] public section

noncomputable section

namespace Cert.Ffn

open Idealize.ShloMosaic

/-- The gate's nonlinearity: the tanh form of gelu. -/
def gelu (x : EReal) : EReal :=
  x * (FloatOps.ofBits (F := Ideal) FTy.f32 (0x3F000000 : BitVec 32) * ((1 : EReal)
    + Ideal.tanh (FloatOps.ofBits (F := Ideal) FTy.f32 (0x3F4C422A : BitVec 32) * (x + FloatOps.ofBits (F := Ideal) FTy.f32 (0x3D372713 : BitVec 32) * (x * (x * x))))))

/-- The mean of a row of 1024. -/
def mean (x : Fin 1024 → EReal) : EReal := Ideal.div (∑ o : Fin 1024, x o) (FloatOps.ofBits (F := Ideal) FTy.f32 (0x44800000 : BitVec 32))

/-- The layer norm of a row, with its scale and its shift. -/
def norm (x : Fin 1024 → EReal) (g b : Fin 1024 → EReal) (o : Fin 1024) : EReal :=
  (x o - mean x) * Ideal.rsqrt (mean (fun q => (x q - mean x) * (x q - mean x)) + FloatOps.ofBits (F := Ideal) FTy.f32 (0x3727C5AC : BitVec 32)) * g o + b o

variable (H : (⟨3, ![4, 4096, 1024]⟩ : Shape).Idx → EReal) (P : (⟨3, ![4, 2, 2816]⟩ : Shape).Idx → EReal)
  (W : (⟨3, ![1, 1024, 5632]⟩ : Shape).Idx → EReal) (C : (⟨3, ![1, 3, 2816]⟩ : Shape).Idx → EReal) (B : (⟨2, ![1, 2816]⟩ : Shape).Idx → EReal)
  (D : (⟨3, ![1, 2816, 1024]⟩ : Shape).Idx → EReal) (g3 b3 : (⟨2, ![1, 1024]⟩ : Shape).Idx → EReal) (b : Fin 4)

/-- Row `n` of batch `b` times column `j` of the up weights. -/
def up (n : Fin 4096) (j : Fin 5632) : EReal := ∑ k : Fin 1024, H (ix3 b n k) * W (ix3 (0 : Fin 1) k j)

/-- The gate's column with the two rows of the history before it. -/
def gate (n : Fin 4098) (j : Fin 2816) : EReal :=
  if h : n.val < 2 then P (ix3 b (⟨n.val, h⟩ : Fin 2) j) else up H W b ⟨n.val - 2, by omega⟩ ⟨2816 + j.val, by omega⟩

/-- The convolution of the gate over three rows, with its bias. -/
def conv (n : Fin 4096) (j : Fin 2816) : EReal :=
  ((B (ix2 (0 : Fin 1) j) + C (ix3 (0 : Fin 1) (0 : Fin 3) j) * gate H P W b ⟨n.val, by omega⟩ j)
    + C (ix3 (0 : Fin 1) (1 : Fin 3) j) * gate H P W b ⟨n.val + 1, by omega⟩ j)
    + C (ix3 (0 : Fin 1) (2 : Fin 3) j) * gate H P W b ⟨n.val + 2, by omega⟩ j

/-- The down projection of the gated columns. -/
def down (n : Fin 4096) (o : Fin 1024) : EReal :=
  ∑ j : Fin 2816, up H W b n ⟨j.val, by omega⟩ * gelu (conv H P W C B b n j) * D (ix3 (0 : Fin 1) j o)

/-- The residual the norm is taken of. -/
def resid (n : Fin 4096) (o : Fin 1024) : EReal :=
  FloatOps.ofBits (F := Ideal) FTy.f32 (0x3F9837F0 : BitVec 32) * H (ix3 b n o) + down H P W C B D b n o

/-- The layer's result. -/
def result (n : Fin 4096) (o : Fin 1024) : EReal :=
  norm (resid H P W C B D b n) (fun q => g3 (ix2 (0 : Fin 1) q)) (fun q => b3 (ix2 (0 : Fin 1) q)) o

end Cert.Ffn

end
-- ==== Proof.FfnTile.lean ====
/- One tile of 256 hidden columns of the feed-forward kernel: what it adds to the running sum. -/
module

public import proofs.«01_k».proof.Proof.FfnMath
public import proofs.«01_k».proof.Proof.Gen.Kernel3Ideal.Value
public import Idealize.ShloMosaic.Lib.Pipeline.ValueKit

@[expose] public section

noncomputable section

namespace Cert.Kernel3Ideal.Ffn

open Idealize.ShloMosaic Idealize.ShloMosaic.TcCoe Cert.Kernel3Ideal Cert.Kernel3Ideal.Gen
open Cert.Ffn (gelu)

section Tile

variable (h : Vec Ideal S1x512x1024 .f32) (wu wg : Vec Ideal S1024x256 .bf16) (p2 p1 b c0 c1 c2 : Vec Ideal S1x256 .f32)
  (wd : Vec Ideal S256x1024 .bf16) (acc : FVec Ideal S512x1024 .f32)

/-- Row `r` of the block times column `d` of a tile of the up weights. -/
def dot (r : Fin 512) (d : Fin 256) : EReal := ∑ k : Fin 1024, (h (ix3 (0 : Fin 1) r k) : EReal) * wg (ix2 k d)

/-- The gate's column one row earlier, the carried row standing before the first. -/
def back1 (r : Fin 512) (d : Fin 256) : EReal :=
  if r.val = 0 then p1 (ix2 (0 : Fin 1) d) else dot h wg ⟨r.val - 1, by omega⟩ d

/-- Two rows earlier. -/
def back2 (r : Fin 512) (d : Fin 256) : EReal :=
  if r.val = 0 then p2 (ix2 (0 : Fin 1) d) else if r.val = 1 then p1 (ix2 (0 : Fin 1) d) else dot h wg ⟨r.val - 2, by omega⟩ d

/-- The gate after the convolution over three rows. -/
def conv (r : Fin 512) (d : Fin 256) : EReal :=
  (((b (ix2 (0 : Fin 1) d) : EReal) + @HMul.hMul EReal EReal EReal _ (c0 (ix2 (0 : Fin 1) d)) (back2 h wg p2 p1 r d))
    + @HMul.hMul EReal EReal EReal _ (c1 (ix2 (0 : Fin 1) d)) (back1 h wg p1 r d))
    + @HMul.hMul EReal EReal EReal _ (c2 (ix2 (0 : Fin 1) d)) (dot h wg r d)

/-- The tile's part of entry `(r, o)` of the down projection. -/
def part (r : Fin 512) (o : Fin 1024) : EReal :=
  ∑ d : Fin 256, dot h wu r d * gelu (conv h wg p2 p1 b c0 c1 c2 r d) * (wd (ix2 d o) : EReal)

/-- A later tile, as the kernel computes it. -/
def stepPay : FVec Ideal S512x1024 .f32 :=
  k0_pay15 (k0_pay12 (k0_pay4 h) wu) (k0_pay13 (k0_pay4 h) wg)
    (k0_pay14 (k0_pay4 h) (iota Kind.tc S512x256 32 [0] iota_S512x256_d0_w32) wg p2 p1 b c0 c1) c2 wd acc

/-- The first tile, as the kernel computes it. -/
def firstPay : FVec Ideal S512x1024 .f32 :=
  k0_pay10 (k0_pay5 h wu) (k0_pay6 h wg) (k0_pay7 h wg p1) (k0_pay8 h wg p2 p1) (k0_pay9 b) c0 c1 c2 wd

omit wu wg p2 p1 b c0 c1 c2 wd acc in
theorem pay4_apply (r : Fin 512) (k : Fin 1024) : k0_pay4 h (ix2 r k) = h (ix3 (0 : Fin 1) r k) := by
  unfold k0_pay4
  pointwise [k0_pay3]

omit h wu wg p2 p1 b c0 c1 c2 wd acc in
/-- The kernel's choice by the row's number. -/
theorem select_row (r : Fin 512) (n : ℕ) (hn : n < 512) (a b : EReal) :
    Scalar.select (IntOp.cmpi CmpIPredicate.eq (BitVec.ofNat 32 r.val) (BitVec.ofNat 32 n)) a b = if r.val = n then a else b := by
  have e : (BitVec.ofNat 32 r.val = BitVec.ofNat 32 n) ↔ r.val = n := by
    constructor
    · intro h
      have h' := congrArg BitVec.toNat h
      simp only [BitVec.toNat_ofNat] at h'
      omega
    · intro h; rw [h]
  by_cases hr : r.val = n
  · rw [if_pos hr, hr]
    simp [Scalar.select, IntOp.cmpi]
  · rw [if_neg hr]
    have hne : ¬ (BitVec.ofNat 32 r.val = BitVec.ofNat 32 n) := fun h => hr (e.mp h)
    have hb : (BitVec.ofNat 32 r.val == BitVec.ofNat 32 n) = false := beq_eq_false_iff_ne.mpr hne
    simp [Scalar.select, IntOp.cmpi, hb]

omit h wu wg p2 p1 b c0 c1 c2 wd acc in
theorem select_row0 (r : Fin 512) (a b : EReal) :
    Scalar.select (IntOp.cmpi CmpIPredicate.eq (BitVec.ofNat 32 r.val) 0#32) a b = if r.val = 0 then a else b :=
  select_row r 0 (by omega) a b

omit h wu wg p2 p1 b c0 c1 c2 wd acc in
theorem select_row1 (r : Fin 512) (a b : EReal) :
    Scalar.select (IntOp.cmpi CmpIPredicate.eq (BitVec.ofNat 32 r.val) 1#32) a b = if r.val = 1 then a else b :=
  select_row r 1 (by omega) a b

theorem stepPay_apply (r : Fin 512) (o : Fin 1024) :
    stepPay h wu wg p2 p1 b c0 c1 c2 wd acc (ix2 r o) = (acc (ix2 r o) : EReal) + part h wu wg p2 p1 b c0 c1 c2 wd r o := by
  unfold stepPay part conv back1 back2 dot gelu
  pointwise [k0_pay15, k0_pay12, k0_pay13, k0_pay14]
  simp only [pay4_apply, select_row0, select_row1]
  by_cases h0 : r.val = 0
  · simp only [if_pos h0]
    rfl
  · have e1 : (⟨(r.val + 512 - 1) % 512, Nat.mod_lt _ (by omega)⟩ : Fin 512) = ⟨r.val - 1, by omega⟩ := Fin.ext (by dsimp only; omega)
    by_cases h1 : r.val = 1
    · simp only [if_neg h0, if_pos h1, e1]
      rfl
    · have e2 : (⟨(r.val + 512 - 2) % 512, Nat.mod_lt _ (by omega)⟩ : Fin 512) = ⟨r.val - 2, by omega⟩ := Fin.ext (by dsimp only; omega)
      simp only [if_neg h0, if_neg h1, e1, e2]
      rfl

theorem firstPay_apply (r : Fin 512) (o : Fin 1024) :
    firstPay h wu wg p2 p1 b c0 c1 c2 wd (ix2 r o) = part h wu wg p2 p1 b c0 c1 c2 wd r o := by
  unfold firstPay part conv back1 back2 dot gelu
  pointwise [k0_pay10, k0_pay5, k0_pay6, k0_pay7, k0_pay8, k0_pay9]
  simp only [pay4_apply, select_row0, select_row1]
  by_cases h0 : r.val = 0
  · simp only [if_pos h0]
    rfl
  · have e1 : (⟨(r.val + 512 - 1) % 512, Nat.mod_lt _ (by omega)⟩ : Fin 512) = ⟨r.val - 1, by omega⟩ := Fin.ext (by dsimp only; omega)
    by_cases h1 : r.val = 1
    · simp only [if_neg h0, if_pos h1, e1]
      rfl
    · have e2 : (⟨(r.val + 512 - 2) % 512, Nat.mod_lt _ (by omega)⟩ : Fin 512) = ⟨r.val - 2, by omega⟩ := Fin.ext (by dsimp only; omega)
      simp only [if_neg h0, if_neg h1, e1, e2]
      rfl

end Tile

end Cert.Kernel3Ideal.Ffn

end
-- ==== Proof.FfnTower.lean ====
/- The eleven tiles of the feed-forward kernel's hidden columns, one after the other, over the weights whole. -/
module

public import proofs.«01_k».proof.Proof.FfnTile

@[expose] public section

noncomputable section

namespace Cert.Kernel3Ideal.Ffn

open Idealize.ShloMosaic Idealize.ShloMosaic.TcCoe Cert.Kernel3Ideal Cert.Kernel3Ideal.Gen

/-- A box of `r` rows and `c` columns at row `o` and column `p` lies in the array. -/
theorem inb2 {R C r c : ℕ} (o p : ℕ) (h1 : o + r ≤ R) (h2 : p + c ≤ C) :
    ∀ a, (![o, p] : Fin 2 → ℕ) a + (![r, c] : Fin 2 → ℕ) a ≤ (⟨2, ![R, C]⟩ : Shape).size a := fun a =>
  match a with
  | ⟨0, _⟩ => h1
  | ⟨1, _⟩ => h2

variable (h : Vec Ideal S1x512x1024 .f32) (hist : Vec Ideal S1x2x2816 .f32) (wup : Vec Ideal S1024x5632 .bf16) (wconv : Vec Ideal S3x2816 .f32)
  (bconv : Vec Ideal S1x2816 .f32) (wdown : Vec Ideal S2816x1024 .bf16) (g3 b3 : Vec Ideal S1x1024 .f32)
  (p2 p1 : Fin 11 → Vec Ideal S1x256 .f32) (car : Vec Ideal S2x2816 .f32)

def upAt (k : Fin 11) : Vec Ideal S1024x256 .bf16 :=
  View.ld wup (Rect.unit (s := S1024x5632) ![0, 256 * k.val] ![1024, 256] (inb2 _ _ (by omega) (by omega)))

def gateAt (k : Fin 11) : Vec Ideal S1024x256 .bf16 :=
  View.ld wup (Rect.unit (s := S1024x5632) ![0, 2816 + 256 * k.val] ![1024, 256] (inb2 _ _ (by omega) (by omega)))

def biasAt (k : Fin 11) : Vec Ideal S1x256 .f32 :=
  View.ld bconv (Rect.unit (s := S1x2816) ![0, 256 * k.val] ![1, 256] (inb2 _ _ (by omega) (by omega)))

def tapAt (i : Fin 3) (k : Fin 11) : Vec Ideal S1x256 .f32 :=
  View.ld wconv (Rect.unit (s := S3x2816) ![i.val, 256 * k.val] ![1, 256] (inb2 _ _ (by omega) (by omega)))

def downAt (k : Fin 11) : Vec Ideal S256x1024 .bf16 :=
  View.ld wdown (Rect.unit (s := S2816x1024) ![256 * k.val, 0] ![256, 1024] (inb2 _ _ (by omega) (by omega)))

/-- Where the carried rows of a tile lie. -/
def carRect (i : Fin 2) (k : Fin 11) : Rect S2x2816 :=
  Rect.unit (s := S2x2816) ![i.val, 256 * k.val] ![1, 256] (inb2 _ _ (by omega) (by omega))

def carAt (i : Fin 2) (k : Fin 11) : Vec Ideal S1x256 .f32 := View.ld car (carRect i k)

def stepAt (k : Fin 11) (acc : FVec Ideal S512x1024 .f32) : FVec Ideal S512x1024 .f32 :=
  stepPay h (upAt wup k) (gateAt wup k) (p2 k) (p1 k) (biasAt bconv k) (tapAt wconv 0 k) (tapAt wconv 1 k) (tapAt wconv 2 k) (downAt wdown k) acc

def firstAt (k : Fin 11) : FVec Ideal S512x1024 .f32 :=
  firstPay h (upAt wup k) (gateAt wup k) (p2 k) (p1 k) (biasAt bconv k) (tapAt wconv 0 k) (tapAt wconv 1 k) (tapAt wconv 2 k) (downAt wdown k)

/-- The down projection of the block. -/
def tower : FVec Ideal S512x1024 .f32 :=
  let s := stepAt h wup wconv bconv wdown p2 p1
  s 10 (s 9 (s 8 (s 7 (s 6 (s 5 (s 4 (s 3 (s 2 (s 1 (firstAt h wup wconv bconv wdown p2 p1 0))))))))))

/-- The residual and the layer norm over a down projection. -/
def layer (acc : FVec Ideal S512x1024 .f32) : FVec Ideal S1x512x1024 .f32 :=
  k0_pay1 (k0_pay83 (k0_pay3 h) acc) (k0_pay84 g3) (k0_pay85 b3) (k0_pay87 (k0_pay3 h) acc) (k0_pay88 (k0_pay3 h) acc)

/-- The gate's last two rows of a tile, as they are stored for the block after. -/
def piece (k : Fin 11) : View.Piece (Elt Ideal) S2x2816 .f32 :=
  ⟨Rect.unit (s := S2x2816) ![0, 256 * k.val] ![2, 256] (inb2 _ _ (by omega) (by omega)), k0_pay16 (k0_pay13 (k0_pay4 h) (gateAt wup k))⟩

/-- The carried rows a batch starts from. -/
def base : View.Piece (Elt Ideal) S2x2816 .f32 := ⟨Rect.unit (s := S2x2816) ![0, 0] ![2, 2816] inb_S2x2816_S2x2816_0_0, k0_pay2 hist⟩

/-- The tiles before tile `n`, the latest first. -/
def below : (n : ℕ) → n ≤ 11 → List (Fin 11)
  | 0, _ => []
  | n + 1, hn => ⟨n, hn⟩ :: below n (Nat.le_of_succ_le hn)

/-- The stores made at a batch's first block before tile `n`. -/
def stores (n : ℕ) (hn : n ≤ 11) : List (View.Piece (Elt Ideal) S2x2816 .f32) := (below n hn).map (piece h wup) ++ [base hist]

/-- A row of a tile, read after the stores of the tiles before it. -/
def carStored (i : Fin 2) (k : Fin 11) : Vec Ideal S1x256 .f32 :=
  (View.whole cc0_scratch0).readCov (stores h hist wup k.val (Nat.le_of_lt k.isLt)) (carRect i k).toLoadRect

end Cert.Kernel3Ideal.Ffn

end
-- ==== Proof.FfnNorm.lean ====
/- The residual and the layer norm of the feed-forward kernel, read at an index. -/
module

public import proofs.«01_k».proof.Proof.FfnTower

@[expose] public section

noncomputable section

namespace Cert.Kernel3Ideal.Ffn

open Idealize.ShloMosaic Idealize.ShloMosaic.TcCoe Cert.Kernel3Ideal Cert.Kernel3Ideal.Gen
open Cert.Ffn (norm mean)

variable (h : Vec Ideal S1x512x1024 .f32) (g3 b3 : Vec Ideal S1x1024 .f32) (acc : FVec Ideal S512x1024 .f32) (r : Fin 512)

/-- The row the norm is taken of. -/
def row (o : Fin 1024) : EReal :=
  (FloatOps.ofBits (F := Ideal) FTy.f32 (0x3F9837F0 : BitVec 32) * (h (ix3 (0 : Fin 1) r o) : EReal)) + (acc (ix2 r o) : EReal)

theorem pay83_apply (o : Fin 1024) : k0_pay83 (k0_pay3 h) acc (ix2 r o) = row h acc r o := by
  pointwise [k0_pay83, k0_pay3]
  rfl

theorem pay86_apply : k0_pay86 (k0_pay3 h) acc (ix2 r (0 : Fin 1)) = mean (row h acc r) := by
  have e := pay83_apply h acc r
  unfold k0_pay86
  generalize k0_pay83 (k0_pay3 h) acc = x at e ⊢
  pointwise
  simp only [e]
  rfl

theorem pay88_apply (o : Fin 1024) : k0_pay88 (k0_pay3 h) acc (ix2 r o) = mean (row h acc r) := by
  have e := pay86_apply h acc r
  unfold k0_pay88
  generalize k0_pay86 (k0_pay3 h) acc = x at e ⊢
  pointwise
  exact e

theorem pay87_apply : k0_pay87 (k0_pay3 h) acc (ix2 r (0 : Fin 1))
    = mean (fun q => (row h acc r q - mean (row h acc r)) * (row h acc r q - mean (row h acc r))) := by
  have e := pay86_apply h acc r
  have e' := pay83_apply h acc r
  unfold k0_pay87
  generalize k0_pay86 (k0_pay3 h) acc = x at e ⊢
  generalize k0_pay83 (k0_pay3 h) acc = z at e' ⊢
  pointwise
  simp only [e, e']
  rfl

theorem layer_apply (o : Fin 1024) : layer h g3 b3 acc (ix3 (0 : Fin 1) r o)
    = norm (row h acc r) (fun q => (g3 (ix2 (0 : Fin 1) q) : EReal)) (fun q => (b3 (ix2 (0 : Fin 1) q) : EReal)) o := by
  have e1 := pay83_apply h acc r
  have e2 := pay87_apply h acc r
  have e3 := pay88_apply h acc r
  unfold layer
  generalize k0_pay83 (k0_pay3 h) acc = x1 at e1 ⊢
  generalize k0_pay87 (k0_pay3 h) acc = x2 at e2 ⊢
  generalize k0_pay88 (k0_pay3 h) acc = x3 at e3 ⊢
  pointwise [k0_pay1, k0_pay84, k0_pay85]
  simp only [e1, e2, e3]
  rfl

end Cert.Kernel3Ideal.Ffn

end
-- ==== Proof.FfnSum.lean ====
/- The eleven tiles added up: a block's down projection is one sum over the hidden columns. -/
module

public import proofs.«01_k».proof.Proof.FfnTower

@[expose] public section

noncomputable section

namespace Cert.Kernel3Ideal.Ffn

open Idealize.ShloMosaic Idealize.ShloMosaic.TcCoe Cert.Kernel3Ideal Cert.Kernel3Ideal.Gen
open Cert.Ffn (gelu)

variable (h : Vec Ideal S1x512x1024 .f32) (wup : Vec Ideal S1024x5632 .bf16) (wconv : Vec Ideal S3x2816 .f32)
  (bconv : Vec Ideal S1x2816 .f32) (wdown : Vec Ideal S2816x1024 .bf16)
  (p2 p1 : Fin 11 → Vec Ideal S1x256 .f32) (car : Fin 2 → Fin 2816 → EReal)

/-- Column `256 k + d`. -/
def col (k : Fin 11) (d : Fin 256) : Fin 2816 := ⟨256 * k.val + d.val, by omega⟩

/-- Row `r` of the block times column `j` of the up weights. -/
def bup (r : Fin 512) (j : Fin 5632) : EReal := ∑ k : Fin 1024, (h (ix3 (0 : Fin 1) r k) : EReal) * wup (ix2 k j)

/-- The gate's column after the two carried rows. -/
def bgate (n : Fin 514) (j : Fin 2816) : EReal :=
  if hn : n.val < 2 then car ⟨n.val, hn⟩ j else bup h wup ⟨n.val - 2, by omega⟩ ⟨2816 + j.val, by omega⟩

def bconvd (r : Fin 512) (j : Fin 2816) : EReal :=
  (((bconv (ix2 (0 : Fin 1) j) : EReal) + @HMul.hMul EReal EReal EReal _ (wconv (ix2 (0 : Fin 3) j)) (bgate h wup car ⟨r.val, by omega⟩ j))
    + @HMul.hMul EReal EReal EReal _ (wconv (ix2 (1 : Fin 3) j)) (bgate h wup car ⟨r.val + 1, by omega⟩ j))
    + @HMul.hMul EReal EReal EReal _ (wconv (ix2 (2 : Fin 3) j)) (bgate h wup car ⟨r.val + 2, by omega⟩ j)

/-- One hidden column's part of entry `(r, o)`. -/
def term (r : Fin 512) (o : Fin 1024) (j : Fin 2816) : EReal :=
  bup h wup r ⟨j.val, by omega⟩ * gelu (bconvd h wup wconv bconv car r j) * (wdown (ix2 j o) : EReal)

theorem sum_eleven (f : Fin 11 → EReal) :
    f 0 + f 1 + f 2 + f 3 + f 4 + f 5 + f 6 + f 7 + f 8 + f 9 + f 10 = ∑ k : Fin 11, f k := by
  simp only [Fin.sum_univ_castSucc, Fin.sum_univ_zero, zero_add]
  rfl

variable (k : Fin 11) (r : Fin 512) (d : Fin 256)

theorem upAt_apply (i : Fin 1024) : upAt wup k (ix2 i d) = wup (ix2 i (⟨(col k d).val, by omega⟩ : Fin 5632)) :=
  View.ld_unit_apply_of wup _ _ _ _ _ fun a => match a with
    | ⟨0, _⟩ => (Nat.zero_add _).symm
    | ⟨1, _⟩ => rfl

theorem gateAt_apply (i : Fin 1024) : gateAt wup k (ix2 i d) = wup (ix2 i (⟨2816 + (col k d).val, by omega⟩ : Fin 5632)) :=
  View.ld_unit_apply_of wup _ _ _ _ _ fun a => match a with
    | ⟨0, _⟩ => (Nat.zero_add _).symm
    | ⟨1, _⟩ => (Nat.add_assoc _ _ _).symm

theorem biasAt_apply : biasAt bconv k (ix2 (0 : Fin 1) d) = bconv (ix2 (0 : Fin 1) (col k d)) :=
  View.ld_unit_apply_of bconv _ _ _ _ _ fun a => match a with
    | ⟨0, _⟩ => rfl
    | ⟨1, _⟩ => rfl

theorem tapAt_apply (i : Fin 3) : tapAt wconv i k (ix2 (0 : Fin 1) d) = wconv (ix2 i (col k d)) :=
  View.ld_unit_apply_of wconv _ _ _ _ _ fun a => match a with
    | ⟨0, _⟩ => rfl
    | ⟨1, _⟩ => rfl

theorem downAt_apply (o : Fin 1024) : downAt wdown k (ix2 d o) = wdown (ix2 (col k d) o) :=
  View.ld_unit_apply_of wdown _ _ _ _ _ fun a => match a with
    | ⟨0, _⟩ => rfl
    | ⟨1, _⟩ => (Nat.zero_add _).symm

theorem carAt_apply (i : Fin 2) (x : Vec Ideal S2x2816 .f32) : carAt x i k (ix2 (0 : Fin 1) d) = x (ix2 i (col k d)) :=
  View.ld_unit_apply_of x _ _ _ _ _ fun a => match a with
    | ⟨0, _⟩ => rfl
    | ⟨1, _⟩ => rfl

theorem dot_up : dot h (upAt wup k) r d = bup h wup r ⟨(col k d).val, by omega⟩ := by
  unfold dot bup
  simp only [upAt_apply]

theorem dot_gate : dot h (gateAt wup k) r d = bup h wup r ⟨2816 + (col k d).val, by omega⟩ := by
  unfold dot bup
  simp only [gateAt_apply]

variable (h2 : ∀ k d, (p2 k (ix2 (0 : Fin 1) d) : EReal) = car 0 (col k d)) (h1 : ∀ k d, (p1 k (ix2 (0 : Fin 1) d) : EReal) = car 1 (col k d))

include h1 in
theorem back1_at : back1 h (gateAt wup k) (p1 k) r d = bgate h wup car ⟨r.val + 1, by omega⟩ (col k d) := by
  unfold back1 bgate
  by_cases h0 : r.val = 0
  · rw [if_pos h0, dif_pos (show (⟨r.val + 1, by omega⟩ : Fin 514).val < 2 by dsimp only; omega), h1]
    exact congrArg (car · (col k d)) (Fin.ext (by dsimp only; omega))
  · rw [if_neg h0, dif_neg (show ¬ (⟨r.val + 1, by omega⟩ : Fin 514).val < 2 by dsimp only; omega), dot_gate]
    exact congrArg (bup h wup · _) (Fin.ext (by dsimp only; omega))

include h1 h2 in
theorem back2_at : back2 h (gateAt wup k) (p2 k) (p1 k) r d = bgate h wup car ⟨r.val, by omega⟩ (col k d) := by
  unfold back2 bgate
  by_cases h0 : r.val = 0
  · rw [if_pos h0, dif_pos (show (⟨r.val, by omega⟩ : Fin 514).val < 2 by dsimp only; omega), h2]
    exact congrArg (car · (col k d)) (Fin.ext h0.symm)
  · by_cases h0' : r.val = 1
    · rw [if_neg h0, if_pos h0', dif_pos (show (⟨r.val, by omega⟩ : Fin 514).val < 2 by dsimp only; omega), h1]
      exact congrArg (car · (col k d)) (Fin.ext h0'.symm)
    · rw [if_neg h0, if_neg h0', dif_neg (show ¬ (⟨r.val, by omega⟩ : Fin 514).val < 2 by dsimp only; omega), dot_gate]

include h1 h2 in
theorem conv_at : conv h (gateAt wup k) (p2 k) (p1 k) (biasAt bconv k) (tapAt wconv 0 k) (tapAt wconv 1 k) (tapAt wconv 2 k) r d
    = bconvd h wup wconv bconv car r (col k d) := by
  have e : bgate h wup car ⟨r.val + 2, by omega⟩ (col k d) = bup h wup r ⟨2816 + (col k d).val, by omega⟩ := by
    unfold bgate
    rw [dif_neg (show ¬ (⟨r.val + 2, by omega⟩ : Fin 514).val < 2 by dsimp only; omega)]
    exact congrArg (bup h wup · _) (Fin.ext (by dsimp only; omega))
  unfold conv bconvd
  rw [back1_at h wup p1 car k r d h1, back2_at h wup p2 p1 car k r d h2 h1, dot_gate, biasAt_apply, tapAt_apply, tapAt_apply, tapAt_apply, e]

include h1 h2 in
theorem part_at (o : Fin 1024) :
    part h (upAt wup k) (gateAt wup k) (p2 k) (p1 k) (biasAt bconv k) (tapAt wconv 0 k) (tapAt wconv 1 k) (tapAt wconv 2 k) (downAt wdown k) r o
      = ∑ d : Fin 256, term h wup wconv bconv wdown car r o (col k d) := by
  unfold part term
  refine Finset.sum_congr rfl fun d _ => ?_
  rw [conv_at h wup wconv bconv p2 p1 car k r d h2 h1, dot_up, downAt_apply]

include h1 h2 in
/-- The block's down projection at an entry. -/
theorem tower_apply (o : Fin 1024) :
    tower h wup wconv bconv wdown p2 p1 (ix2 r o) = ∑ j : Fin 2816, term h wup wconv bconv wdown car r o j := by
  have e : ∀ k acc, (stepAt h wup wconv bconv wdown p2 p1 k acc (ix2 r o) : EReal)
      = (acc (ix2 r o) : EReal) + ∑ d : Fin 256, term h wup wconv bconv wdown car r o (col k d) := fun k acc => by
    unfold stepAt
    rw [stepPay_apply, part_at h wup wconv bconv wdown p2 p1 car k r h2 h1 o]
  have e0 : (firstAt h wup wconv bconv wdown p2 p1 0 (ix2 r o) : EReal)
      = ∑ d : Fin 256, term h wup wconv bconv wdown car r o (col 0 d) := by
    unfold firstAt
    rw [firstPay_apply, part_at h wup wconv bconv wdown p2 p1 car 0 r h2 h1 o]
  have es : ∑ j : Fin 2816, term h wup wconv bconv wdown car r o j
      = ∑ k : Fin 11, ∑ d : Fin 256, term h wup wconv bconv wdown car r o (col k d) := by
    rw [← Fintype.sum_prod_type']
    refine (Equiv.sum_comp (finProdFinEquiv : Fin 11 × Fin 256 ≃ Fin (11 * 256)) _).symm.trans ?_
    refine Finset.sum_congr rfl fun p _ => congrArg _ (Fin.ext ?_)
    show p.2.val + 256 * p.1.val = 256 * p.1.val + p.2.val
    omega
  rw [es]
  unfold tower
  simp only [e, e0]
  exact sum_eleven fun k => ∑ d : Fin 256, term h wup wconv bconv wdown car r o (col k d)

end Cert.Kernel3Ideal.Ffn

end
-- ==== Proof.FfnCases.lean ====
/- What one point of the feed-forward kernel's grid leaves, as the eleven tiles one after the other: the first block of a batch takes the
   carried rows from the history, each later block takes them from the block before. -/
module

public import proofs.«01_k».proof.Proof.FfnTower

@[expose] public section

noncomputable section

namespace Cert.Kernel3Ideal.Ffn

open Idealize.ShloMosaic Idealize.ShloMosaic.TcCoe Cert.Kernel3Ideal Cert.Kernel3Ideal.Gen Cert.Kernel3Ideal.Value

variable (m : (ℓ : Loc nD τ sig) → Buf (Elt Ideal) ℓ) (c : Dev nD)

/-- The carried rows a later block reads. -/
def prev (t : Fin cfg0.N) : Vec Ideal S2x2816 .f32 := (outsAt0 m c (t.val - 1) (Nat.lt_of_le_of_lt (Nat.sub_le _ _) t.isLt)).2.2

set_option maxHeartbeats 8000000 in
theorem y_later (t : Fin cfg0.N) (h0 : ¬ t.val % 8 = 0) (y : S1x512x1024.Idx) :
    (outsAt0 m c t.val t.isLt).1 y
      = layer (iblk m c 0 t) (iblk m c 6 t) (iblk m c 7 t)
          (tower (iblk m c 0 t) (iblk m c 2 t) (iblk m c 3 t) (iblk m c 4 t) (iblk m c 5 t) (carAt (prev m c t) 0) (carAt (prev m c t) 1)) y := by
  rw [outsAt0_B m c t h0]
  dsimp only
  frame_out
  have e := (Memref.isWhole_whole cc0_scratch0).read_unread (prev m c t)
  unfold prev at e
  simp only [e]
  rfl

set_option maxHeartbeats 8000000 in
theorem y_first (t : Fin cfg0.N) (h0 : t.val % 8 = 0) (y : S1x512x1024.Idx) :
    (outsAt0 m c t.val t.isLt).1 y
      = layer (iblk m c 0 t) (iblk m c 6 t) (iblk m c 7 t)
          (tower (iblk m c 0 t) (iblk m c 2 t) (iblk m c 3 t) (iblk m c 4 t) (iblk m c 5 t)
            (carStored (iblk m c 0 t) (iblk m c 1 t) (iblk m c 2 t) 0) (carStored (iblk m c 0 t) (iblk m c 1 t) (iblk m c 2 t) 1)) y := by
  rw [outsAt0_A m c t h0]
  dsimp only
  frame_out
  rfl

/-- The carried rows a point leaves are the last stores of its eleven tiles, at a batch's first block over the history. -/
theorem scratch_first (t : Fin cfg0.N) (h0 : t.val % 8 = 0) (y : S2x2816.Idx) :
    (outsAt0 m c t.val t.isLt).2.2 y = View.canon (stores (iblk m c 0 t) (iblk m c 1 t) (iblk m c 2 t) 11 (le_refl _)) y := by
  rw [outsAt0_A m c t h0]
  dsimp only
  frame_out
  rfl

theorem scratch_later (t : Fin cfg0.N) (h0 : ¬ t.val % 8 = 0) (y : S2x2816.Idx) :
    (outsAt0 m c t.val t.isLt).2.2 y = View.canon ((below 11 (le_refl _)).map (piece (iblk m c 0 t) (iblk m c 2 t))) y := by
  rw [outsAt0_B m c t h0]
  dsimp only
  frame_out
  rfl

theorem tail_later (t : Fin cfg0.N) (h0 : ¬ t.val % 8 = 0) (y : S1x2x2816.Idx) :
    (outsAt0 m c t.val t.isLt).2.1 y
      = k0_pay82 ((View.whole cc0_scratch0).readCov ((below 11 (le_refl _)).map (piece (iblk m c 0 t) (iblk m c 2 t)))
          (Rect.unit (s := S2x2816) ![0, 0] ![2, 2816] inb_S2x2816_S2x2816_0_0).toLoadRect) y := by
  rw [outsAt0_B m c t h0]
  dsimp only
  frame_out
  rfl

end Cert.Kernel3Ideal.Ffn

end
-- ==== Proof.FfnCarry.lean ====
/- The two rows the feed-forward kernel carries from block to block. -/
module

public import proofs.«01_k».proof.Proof.FfnSum
public import proofs.«01_k».proof.Proof.FfnCases

@[expose] public section

noncomputable section

namespace Cert.Kernel3Ideal.Ffn

open Idealize.ShloMosaic Idealize.ShloMosaic.TcCoe Cert.Kernel3Ideal Cert.Kernel3Ideal.Gen Cert.Kernel3Ideal.Value

section Stores

variable (G : S2x2816.Idx → EReal)

/-- Stores that agree with `G`, made after others: where one of them lies the array is `G`. -/
theorem canon_append_of_pieces (M : List (View.Piece (Elt Ideal) S2x2816 .f32)) :
    ∀ (L : List (View.Piece (Elt Ideal) S2x2816 .f32)) (_ : ∀ p ∈ L, ∀ x : p.1.shape.Idx, p.2 x = G (p.1.emb x)) (y : S2x2816.Idx)
      (_ : ∃ p ∈ L, y ∈ p.1.set), View.canon (L ++ M) y = G y
  | [], _, _, hy => by obtain ⟨p, hp, _⟩ := hy; simp at hp
  | p :: L, hL, y, hy => by
    by_cases hm : y ∈ p.1.set
    · obtain ⟨x, rfl⟩ := p.1.exists_idx_of_mem hm
      exact (View.canon_cons_emb p.1 p.2 (L ++ M) x).trans (hL p List.mem_cons_self x)
    · refine (View.canon_cons_of_not_mem p (L ++ M) hm).trans ?_
      refine canon_append_of_pieces M L (fun q hq => hL q (List.mem_cons_of_mem _ hq)) y ?_
      obtain ⟨q, hq, hyq⟩ := hy
      rcases List.mem_cons.mp hq with rfl | hq
      · exact absurd hyq hm
      · exact ⟨q, hq, hyq⟩

/-- Where none of the later stores lies the array is what the earlier ones left. -/
theorem canon_append_of_not_mem (M : List (View.Piece (Elt Ideal) S2x2816 .f32)) (y : S2x2816.Idx) :
    ∀ (L : List (View.Piece (Elt Ideal) S2x2816 .f32)) (_ : ∀ p ∈ L, y ∉ p.1.set), View.canon (L ++ M) y = View.canon M y
  | [], _ => rfl
  | p :: L, hL => (View.canon_cons_of_not_mem p (L ++ M) (hL p List.mem_cons_self)).trans
      (canon_append_of_not_mem M y L fun q hq => hL q (List.mem_cons_of_mem _ hq))

end Stores

variable (h : Vec Ideal S1x512x1024 .f32) (hist : Vec Ideal S1x2x2816 .f32) (wup : Vec Ideal S1024x5632 .bf16)

theorem mem_below (k : Fin 11) : ∀ (n : ℕ) (hn : n ≤ 11), k ∈ below n hn → k.val < n
  | 0, _, hk => by simp [below] at hk
  | n + 1, hn, hk => by
    unfold below at hk
    rcases List.mem_cons.mp hk with e | e
    · rw [e]; exact Nat.lt_succ_self n
    · exact Nat.lt_succ_of_lt (mem_below k n _ e)

/-- The last two rows of the block's gate. -/
def lastRows (y : S2x2816.Idx) : EReal :=
  bup h wup ⟨510 + (y 0).val, Nat.add_lt_add_left (show (y 0).val < 2 from (y 0).isLt) 510⟩
    ⟨2816 + (y 1).val, Nat.add_lt_add_left (show (y 1).val < 2816 from (y 1).isLt) 2816⟩

theorem unit_val0 (o p r c : ℕ) (inb) (x : (Rect.unit (s := S2x2816) ![o, p] ![r, c] inb).shape.Idx) :
    ((Rect.unit (s := S2x2816) ![o, p] ![r, c] inb).emb x 0).val = o + (x 0).val := Rect.idx_unit_val _ _ _ x 0

theorem unit_val1 (o p r c : ℕ) (inb) (x : (Rect.unit (s := S2x2816) ![o, p] ![r, c] inb).shape.Idx) :
    ((Rect.unit (s := S2x2816) ![o, p] ![r, c] inb).emb x 1).val = p + (x 1).val := Rect.idx_unit_val _ _ _ x 1

theorem piece_apply (k : Fin 11) (x : (piece h wup k).1.shape.Idx) : (piece h wup k).2 x = lastRows h wup ((piece h wup k).1.emb x) := by
  have key : ∀ (i : Fin 2) (d : Fin 256), k0_pay16 (k0_pay13 (k0_pay4 h) (gateAt wup k)) (ix2 i d)
      = bup h wup ⟨510 + i.val, by omega⟩ ⟨2816 + (256 * k.val + d.val), by omega⟩ := fun i d => by
    pointwise [k0_pay16, k0_pay13]
    simp only [pay4_apply, gateAt_apply]
    rfl
  have ex : x = ix2 (x 0 : Fin 2) (x 1 : Fin 256) := funext fun a => match a with | ⟨0, _⟩ => rfl | ⟨1, _⟩ => rfl
  refine (congrArg (piece h wup k).2 ex).trans ((key (x 0) (x 1)).trans ?_)
  unfold lastRows
  refine congrArg₂ (bup h wup) (Fin.ext ?_) (Fin.ext ?_)
  · show 510 + (x 0).val = 510 + ((piece h wup k).1.emb x 0).val
    rw [show ((piece h wup k).1.emb x 0).val = 0 + (x 0).val from
      unit_val0 0 (256 * k.val) 2 256 (inb2 _ _ (by omega) (by omega)) x, Nat.zero_add]
  · show 2816 + (256 * k.val + (x 1).val) = 2816 + ((piece h wup k).1.emb x 1).val
    rw [show ((piece h wup k).1.emb x 1).val = 256 * k.val + (x 1).val from
      unit_val1 0 (256 * k.val) 2 256 (inb2 _ _ (by omega) (by omega)) x]

theorem covered (y : S2x2816.Idx) : ∃ p ∈ (below 11 (le_refl _)).map (piece h wup), y ∈ p.1.set :=
  View.cover_of_tiled _ ![2, 256] (by rfl) y

theorem agrees (p : View.Piece (Elt Ideal) S2x2816 .f32) (hp : p ∈ (below 11 (le_refl _)).map (piece h wup)) (x : p.1.shape.Idx) :
    p.2 x = lastRows h wup (p.1.emb x) := by
  obtain ⟨k, _, rfl⟩ := List.mem_map.mp hp
  exact piece_apply h wup k x

theorem canon_later (y : S2x2816.Idx) : View.canon ((below 11 (le_refl _)).map (piece h wup)) y = lastRows h wup y :=
  View.canon_apply_of_pieces _ _ (agrees h wup) y (covered h wup y)

theorem canon_first (y : S2x2816.Idx) : View.canon (stores h hist wup 11 (le_refl _)) y = lastRows h wup y :=
  canon_append_of_pieces _ _ _ (agrees h wup) y (covered h wup y)

theorem pay2_apply (i : Fin 2) (j : Fin 2816) : k0_pay2 hist (ix2 i j) = hist (ix3 (0 : Fin 1) i j) := by
  unfold k0_pay2
  pointwise

/-- At a batch's first block a tile reads the history, whatever the tiles before it stored. -/
theorem carStored_apply (i : Fin 2) (k : Fin 11) (d : Fin 256) :
    carStored h hist wup i k (ix2 (0 : Fin 1) d) = hist (ix3 (0 : Fin 1) i (col k d)) := by
  unfold carStored
  rw [View.readCov_eq_canon']
  have ei : (carRect i k).toLoadRect.idx (ix2 (0 : Fin 1) d) = ix2 i (col k d) := funext fun a => Fin.ext (match a with
    | ⟨0, _⟩ => Rect.idx_unit_val (s := S2x2816) ![i.val, 256 * k.val] ![1, 256] _ (ix2 (0 : Fin 1) d) 0
    | ⟨1, _⟩ => Rect.idx_unit_val (s := S2x2816) ![i.val, 256 * k.val] ![1, 256] _ (ix2 (0 : Fin 1) d) 1)
  refine (congrArg (View.canon _) ei).trans ?_
  unfold stores
  refine (canon_append_of_not_mem _ _ _ ?_).trans ?_
  · intro p hp hm
    obtain ⟨q, hq, rfl⟩ := List.mem_map.mp hp
    have hlt := mem_below q _ _ hq
    have h1 := ((Rect.mem_set_unit (s := S2x2816) (off := ![0, 256 * q.val]) (size := ![2, 256]) (inb := inb2 _ _ (by omega) (by omega))).mp hm 1).2
    have h2 : 256 * k.val + d.val < 256 * q.val + 256 := h1
    omega
  · have eb : (base hist).1.emb (ix2 i (col k d)) = ix2 i (col k d) := funext fun a => Fin.ext (match a with
      | ⟨0, _⟩ => (unit_val0 0 0 2 2816 inb_S2x2816_S2x2816_0_0 (ix2 i (col k d))).trans (Nat.zero_add i.val)
      | ⟨1, _⟩ => (unit_val1 0 0 2 2816 inb_S2x2816_S2x2816_0_0 (ix2 i (col k d))).trans (Nat.zero_add (col k d).val))
    have e := View.canon_cons_emb (base hist).1 (base hist).2 [] (ix2 i (col k d))
    rw [eb] at e
    exact e.trans (pay2_apply hist i (col k d))

end Cert.Kernel3Ideal.Ffn

end
-- ==== Proof.FfnHost.lean ====
/- The blocks and the weights that a point of the feed-forward kernel's grid reads, from the arguments. -/
module

public import proofs.«01_k».proof.Proof.Gen.Kernel3Ideal.Value
public import Idealize.ShloMosaic.Lib.Pipeline.ValueKit
public import Idealize.ShloMosaic.Lib.Pointwise
public import Idealize.ShloMosaic.Lib.StableHlo

@[expose] public section

noncomputable section

namespace Cert.Kernel3Ideal.Ffn

open Idealize.ShloMosaic Idealize.ShloMosaic.TcCoe Cert.Kernel3Ideal Cert.Kernel3Ideal.Gen Cert.Kernel3Ideal.Value

variable (m : (ℓ : Loc nD τ sig) → Buf (Elt Ideal) ℓ) (c : Dev nD)

theorem up_weights (d : Fin 1024) (j : Fin 5632) :
    (V m c main_v1 : S1024x5632.Idx → EReal) (ix2 d j) = (m ((c : Thread nD τ).loc main_arg2) : S1x1024x5632.Idx → EReal) (ix3 (0 : Fin 1) d j) := by
  unfold V
  after_results_simp
  pointwise

theorem taps (i : Fin 3) (j : Fin 2816) :
    (V m c main_v2 : S3x2816.Idx → EReal) (ix2 i j) = (m ((c : Thread nD τ).loc main_arg3) : S1x3x2816.Idx → EReal) (ix3 (0 : Fin 1) i j) := by
  unfold V
  after_results_simp
  pointwise

theorem bias (j : Fin 2816) :
    (V m c main_v4 : S1x2816.Idx → EReal) (ix2 (0 : Fin 1) j) = (m ((c : Thread nD τ).loc main_arg4) : S1x2816.Idx → EReal) (ix2 (0 : Fin 1) j) := by
  unfold V
  after_results_simp
  pointwise

theorem down_weights (j : Fin 2816) (o : Fin 1024) :
    (V m c main_v6 : S2816x1024.Idx → EReal) (ix2 j o) = (m ((c : Thread nD τ).loc main_arg5) : S1x2816x1024.Idx → EReal) (ix3 (0 : Fin 1) j o) := by
  unfold V
  after_results_simp
  pointwise

theorem norm_scale (o : Fin 1024) :
    (V m c main_v8 : S1x1024.Idx → EReal) (ix2 (0 : Fin 1) o) = (m ((c : Thread nD τ).loc main_arg6) : S1x1024.Idx → EReal) (ix2 (0 : Fin 1) o) := by
  unfold V
  after_results_simp
  pointwise

theorem norm_shift (o : Fin 1024) :
    (V m c main_v10 : S1x1024.Idx → EReal) (ix2 (0 : Fin 1) o) = (m ((c : Thread nD τ).loc main_arg7) : S1x1024.Idx → EReal) (ix2 (0 : Fin 1) o) := by
  unfold V
  after_results_simp
  pointwise

theorem index_0 : ∀ t : Fin cfg0.N, win0_0.index t = ![t.val / 8, t.val % 8, 0] := (by decide +kernel : ∀ t : Fin grid0.N, _)
theorem index_1 : ∀ t : Fin cfg0.N, win0_1.index t = ![t.val / 8, 0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![0, 0] := (by decide +kernel : ∀ t : Fin grid0.N, _)

theorem batch_lt (t : Fin cfg0.N) : t.val / 8 < 4 := by
  have hN : cfg0.N = 32 := N_0
  have := t.isLt
  omega

variable (t : Fin cfg0.N)

theorem block_h (r : Fin 512) (d : Fin 1024) :
    (iblk m c 0 t : Vec Ideal S1x512x1024 .f32) (ix3 (0 : Fin 1) r d)
      = m ((c : Thread nD τ).loc main_arg0) (ix3 (⟨t.val / 8, batch_lt t⟩ : Fin 4) (⟨512 * (t.val % 8) + r.val, by omega⟩ : Fin 4096) d) := by
  blk_simp [iblk]
  rw [V_main_arg0]
  refine congrArg (m ((c : Thread nD τ).loc main_arg0)) ?_
  blk_ext [index_0]

theorem block_hist (i : Fin 2) (j : Fin 2816) :
    (iblk m c 1 t : Vec Ideal S1x2x2816 .f32) (ix3 (0 : Fin 1) i j)
      = m ((c : Thread nD τ).loc main_arg1) (ix3 (⟨t.val / 8, batch_lt t⟩ : Fin 4) i j) := by
  blk_simp [iblk]
  rw [V_main_arg1]
  refine congrArg (m ((c : Thread nD τ).loc main_arg1)) ?_
  blk_ext [index_1]

theorem block_up : (iblk m c 2 t : Vec Ideal S1024x5632 .bf16) = V m c main_v1 := by
  funext y
  blk_simp [iblk]
  refine congrArg (V m c main_v1) ?_
  blk_ext [index_2]

theorem block_taps : (iblk m c 3 t : Vec Ideal S3x2816 .f32) = V m c main_v2 := by
  funext y
  blk_simp [iblk]
  refine congrArg (V m c main_v2) ?_
  blk_ext [index_3]

theorem block_bias : (iblk m c 4 t : Vec Ideal S1x2816 .f32) = V m c main_v4 := by
  funext y
  blk_simp [iblk]
  refine congrArg (V m c main_v4) ?_
  blk_ext [index_4]

theorem block_down : (iblk m c 5 t : Vec Ideal S2816x1024 .bf16) = V m c main_v6 := by
  funext y
  blk_simp [iblk]
  refine congrArg (V m c main_v6) ?_
  blk_ext [index_5]

theorem block_scale : (iblk m c 6 t : Vec Ideal S1x1024 .f32) = V m c main_v8 := by
  funext y
  blk_simp [iblk]
  refine congrArg (V m c main_v8) ?_
  blk_ext [index_6]

theorem block_shift : (iblk m c 7 t : Vec Ideal S1x1024 .f32) = V m c main_v10 := by
  funext y
  blk_simp [iblk]
  refine congrArg (V m c main_v10) ?_
  blk_ext [index_7]

end Cert.Kernel3Ideal.Ffn

end
-- ==== Proof.FfnLink.lean ====
/- What a point of the feed-forward kernel's grid leaves, in the arguments: 512 rows of the layer, and the gate's last two rows. -/
module

public import proofs.«01_k».proof.Proof.FfnNorm
public import proofs.«01_k».proof.Proof.FfnCarry
public import proofs.«01_k».proof.Proof.FfnHost

@[expose] public section

noncomputable section

namespace Cert.Kernel3Ideal.Ffn

open Idealize.ShloMosaic Idealize.ShloMosaic.TcCoe Cert.Kernel3Ideal Cert.Kernel3Ideal.Gen Cert.Kernel3Ideal.Value
open Cert.Ffn (up gate result resid down gelu norm)

variable (m : (ℓ : Loc nD τ sig) → Buf (Elt Ideal) ℓ) (c : Dev nD) (t : Fin cfg0.N)

/-- The batch of a point. -/
def batch : Fin 4 := ⟨t.val / 8, batch_lt t⟩

/-- The row of the array that row `r` of a point's block is. -/
def rowOf (r : Fin 512) : Fin 4096 := ⟨512 * (t.val % 8) + r.val, by omega⟩

/-- The same among the rows that start with the two of the history. -/
def padRow (n : Fin 514) : Fin 4098 := ⟨512 * (t.val % 8) + n.val, by omega⟩

theorem block_bup (r : Fin 512) (j : Fin 5632) :
    bup (iblk m c 0 t) (iblk m c 2 t) r j
      = up (m ((c : Thread nD τ).loc main_arg0)) (m ((c : Thread nD τ).loc main_arg2)) (batch t) (rowOf t r) j := by
  unfold bup up
  refine Finset.sum_congr rfl fun d _ => ?_
  rw [block_h, block_up, up_weights]
  rfl

/-- What a point's tiles read as the two rows before its block. -/
def before (i : Fin 2) (j : Fin 2816) : EReal :=
  gate (m ((c : Thread nD τ).loc main_arg0)) (m ((c : Thread nD τ).loc main_arg1)) (m ((c : Thread nD τ).loc main_arg2)) (batch t)
    (padRow t ⟨i.val, by omega⟩) j

theorem block_bgate (n : Fin 514) (j : Fin 2816) :
    bgate (iblk m c 0 t) (iblk m c 2 t) (before m c t) n j
      = gate (m ((c : Thread nD τ).loc main_arg0)) (m ((c : Thread nD τ).loc main_arg1)) (m ((c : Thread nD τ).loc main_arg2)) (batch t)
          (padRow t n) j := by
  unfold bgate
  by_cases hn : n.val < 2
  · rw [dif_pos hn]
    rfl
  · rw [dif_neg hn, block_bup]
    unfold gate
    rw [dif_neg (show ¬ (padRow t n).val < 2 by unfold padRow; dsimp only; omega)]
    exact congrArg (fun n => up (m ((c : Thread nD τ).loc main_arg0)) (m ((c : Thread nD τ).loc main_arg2)) (batch t) n _)
      (Fin.ext (by unfold rowOf padRow; dsimp only; omega))

theorem block_lastRows (i : Fin 2) (j : Fin 2816) :
    lastRows (iblk m c 0 t) (iblk m c 2 t) (ix2 i j)
      = gate (m ((c : Thread nD τ).loc main_arg0)) (m ((c : Thread nD τ).loc main_arg1)) (m ((c : Thread nD τ).loc main_arg2)) (batch t)
          (padRow t ⟨512 + i.val, by omega⟩) j := by
  unfold lastRows
  refine (block_bup m c t _ _).trans ?_
  unfold gate
  rw [dif_neg (show ¬ (padRow t ⟨512 + i.val, by omega⟩).val < 2 by unfold padRow; dsimp only; omega)]
  refine congrArg₂ (up (m ((c : Thread nD τ).loc main_arg0)) (m ((c : Thread nD τ).loc main_arg2)) (batch t)) (Fin.ext ?_) rfl
  show 512 * (t.val % 8) + (510 + i.val) = 512 * (t.val % 8) + (512 + i.val) - 2
  omega

theorem scratch_apply (y : S2x2816.Idx) :
    (outsAt0 m c t.val t.isLt).2.2 y = lastRows (iblk m c 0 t) (iblk m c 2 t) y := by
  by_cases h0 : t.val % 8 = 0
  · exact (scratch_first m c t h0 y).trans (canon_first _ _ _ y)
  · exact (scratch_later m c t h0 y).trans (canon_later _ _ y)

theorem prev_apply (h0 : ¬ t.val % 8 = 0) (i : Fin 2) (j : Fin 2816) : prev m c t (ix2 i j) = before m c t i j := by
  have hlt : t.val - 1 < cfg0.N := Nat.lt_of_le_of_lt (Nat.sub_le _ _) t.isLt
  refine (scratch_apply m c ⟨t.val - 1, hlt⟩ (ix2 i j)).trans ((block_lastRows m c ⟨t.val - 1, hlt⟩ i j).trans ?_)
  unfold before
  refine congrArg₂ (fun b n => gate (m ((c : Thread nD τ).loc main_arg0)) (m ((c : Thread nD τ).loc main_arg1))
    (m ((c : Thread nD τ).loc main_arg2)) b n j) (Fin.ext ?_) (Fin.ext ?_)
  · show (t.val - 1) / 8 = t.val / 8
    omega
  · show 512 * ((t.val - 1) % 8) + (512 + i.val) = 512 * (t.val % 8) + i.val
    omega

theorem hist_before (h0 : t.val % 8 = 0) (i : Fin 2) (j : Fin 2816) :
    (iblk m c 1 t : Vec Ideal S1x2x2816 .f32) (ix3 (0 : Fin 1) i j) = before m c t i j := by
  rw [block_hist]
  unfold before gate
  rw [dif_pos (show (padRow t ⟨i.val, by omega⟩).val < 2 by unfold padRow; dsimp only; omega)]
  refine congrArg (fun i => m ((c : Thread nD τ).loc main_arg1) (ix3 (batch t) i j)) (Fin.ext ?_)
  show i.val = 512 * (t.val % 8) + i.val
  omega

theorem block_term (r : Fin 512) (o : Fin 1024) (j : Fin 2816) :
    term (iblk m c 0 t) (iblk m c 2 t) (iblk m c 3 t) (iblk m c 4 t) (iblk m c 5 t) (before m c t) r o j
      = up (m ((c : Thread nD τ).loc main_arg0)) (m ((c : Thread nD τ).loc main_arg2)) (batch t) (rowOf t r) ⟨j.val, by omega⟩
        * gelu (Cert.Ffn.conv (m ((c : Thread nD τ).loc main_arg0)) (m ((c : Thread nD τ).loc main_arg1)) (m ((c : Thread nD τ).loc main_arg2))
            (m ((c : Thread nD τ).loc main_arg3)) (m ((c : Thread nD τ).loc main_arg4)) (batch t) (rowOf t r) j)
        * (m ((c : Thread nD τ).loc main_arg5) : S1x2816x1024.Idx → EReal) (ix3 (0 : Fin 1) j o) := by
  unfold term bconvd Cert.Ffn.conv
  rw [block_bup, block_bgate, block_bgate, block_bgate, block_taps, block_bias, block_down, taps, taps, taps, bias, down_weights]
  rfl

theorem block_tower (p2 p1 : Fin 11 → Vec Ideal S1x256 .f32)
    (h2 : ∀ k d, (p2 k (ix2 (0 : Fin 1) d) : EReal) = before m c t 0 (col k d))
    (h1 : ∀ k d, (p1 k (ix2 (0 : Fin 1) d) : EReal) = before m c t 1 (col k d)) (r : Fin 512) (o : Fin 1024) :
    tower (iblk m c 0 t) (iblk m c 2 t) (iblk m c 3 t) (iblk m c 4 t) (iblk m c 5 t) p2 p1 (ix2 r o)
      = down (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (batch t) (rowOf t r) o := by
  rw [tower_apply _ _ _ _ _ p2 p1 (before m c t) r h2 h1 o]
  unfold down
  exact Finset.sum_congr rfl fun j _ => block_term m c t r o j

theorem block_layer (p2 p1 : Fin 11 → Vec Ideal S1x256 .f32)
    (h2 : ∀ k d, (p2 k (ix2 (0 : Fin 1) d) : EReal) = before m c t 0 (col k d))
    (h1 : ∀ k d, (p1 k (ix2 (0 : Fin 1) d) : EReal) = before m c t 1 (col k d)) (r : Fin 512) (o : Fin 1024) :
    layer (iblk m c 0 t) (iblk m c 6 t) (iblk m c 7 t)
        (tower (iblk m c 0 t) (iblk m c 2 t) (iblk m c 3 t) (iblk m c 4 t) (iblk m c 5 t) p2 p1) (ix3 (0 : Fin 1) r o)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (batch t) (rowOf t r) o := by
  rw [layer_apply]
  unfold result
  have e1 : row (iblk m c 0 t) (tower (iblk m c 0 t) (iblk m c 2 t) (iblk m c 3 t) (iblk m c 4 t) (iblk m c 5 t) p2 p1) r
      = resid (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (batch t) (rowOf t r) := by
    funext q
    unfold row resid
    rw [block_tower m c t p2 p1 h2 h1 r q, block_h]
    rfl
  rw [e1]
  have e2 : (fun q : Fin 1024 => ((iblk m c 6 t : Vec Ideal S1x1024 .f32) (ix2 (0 : Fin 1) q) : EReal))
      = fun q => (m ((c : Thread nD τ).loc main_arg6) : S1x1024.Idx → EReal) (ix2 (0 : Fin 1) q) := by
    funext q
    rw [block_scale]
    exact norm_scale m c q
  have e3 : (fun q : Fin 1024 => ((iblk m c 7 t : Vec Ideal S1x1024 .f32) (ix2 (0 : Fin 1) q) : EReal))
      = fun q => (m ((c : Thread nD τ).loc main_arg7) : S1x1024.Idx → EReal) (ix2 (0 : Fin 1) q) := by
    funext q
    rw [block_shift]
    exact norm_shift m c q
  exact congrArg₂ (fun g b => norm _ g b o) e2 e3

/-- The first result of a point: 512 rows of the layer. -/
theorem y_apply (r : Fin 512) (o : Fin 1024) :
    (outsAt0 m c t.val t.isLt).1 (ix3 (0 : Fin 1) r o)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (batch t) (rowOf t r) o := by
  by_cases h0 : t.val % 8 = 0
  · refine (y_first m c t h0 _).trans (block_layer m c t _ _ (fun k d => ?_) (fun k d => ?_) r o)
    · exact (carStored_apply _ _ _ 0 k d).trans (hist_before m c t h0 0 (col k d))
    · exact (carStored_apply _ _ _ 1 k d).trans (hist_before m c t h0 1 (col k d))
  · refine (y_later m c t h0 _).trans (block_layer m c t _ _ (fun k d => ?_) (fun k d => ?_) r o)
    · exact (carAt_apply k d 0 _).trans (prev_apply m c t h0 0 (col k d))
    · exact (carAt_apply k d 1 _).trans (prev_apply m c t h0 1 (col k d))

theorem pay82_apply (x : Vec Ideal S2x2816 .f32) (i : Fin 2) (j : Fin 2816) : k0_pay82 x (ix3 (0 : Fin 1) i j) = x (ix2 i j) := by
  unfold k0_pay82
  pointwise

/-- The second result of a point after a batch's first: the gate's last two rows. -/
theorem tail_apply (h0 : ¬ t.val % 8 = 0) (i : Fin 2) (j : Fin 2816) :
    (outsAt0 m c t.val t.isLt).2.1 (ix3 (0 : Fin 1) i j)
      = gate (m ((c : Thread nD τ).loc main_arg0)) (m ((c : Thread nD τ).loc main_arg1)) (m ((c : Thread nD τ).loc main_arg2)) (batch t)
          (padRow t ⟨512 + i.val, by omega⟩) j := by
  refine (tail_later m c t h0 _).trans ((pay82_apply _ i j).trans ?_)
  rw [View.readCov_eq_canon']
  have ei : (Rect.unit (s := S2x2816) ![0, 0] ![2, 2816] inb_S2x2816_S2x2816_0_0).toLoadRect.idx (ix2 i j) = ix2 i j :=
    funext fun a => Fin.ext (match a with
      | ⟨0, _⟩ => (unit_val0 0 0 2 2816 inb_S2x2816_S2x2816_0_0 (ix2 i j)).trans (Nat.zero_add i.val)
      | ⟨1, _⟩ => (unit_val1 0 0 2 2816 inb_S2x2816_S2x2816_0_0 (ix2 i j)).trans (Nat.zero_add j.val))
  refine (congrArg (View.canon _) ei).trans ?_
  exact (canon_later _ _ (ix2 i j)).trans (block_lastRows m c t i j)

end Cert.Kernel3Ideal.Ffn

end
-- ==== Proof.FfnRef.lean ====
/- The reference of the feed-forward layer, read at an index. -/
module

public import proofs.«01_k».proof.Proof.Gen.Reference3Ideal.Read
public import proofs.«01_k».proof.Proof.FfnMath
public import Idealize.ShloMosaic.Lib.Pointwise
public import Idealize.ShloMosaic.Lib.StableHlo

@[expose] public section

noncomputable section

namespace Cert.Reference3Ideal.Ffn

open Idealize.ShloMosaic Cert.Reference3Ideal Cert.Reference3Ideal.Read
open Cert.Ffn

variable (H : S4x4096x1024.Idx → EReal) (P : S4x2x2816.Idx → EReal) (W : S1x1024x5632.Idx → EReal) (C : S1x3x2816.Idx → EReal)
  (B : S1x2816.Idx → EReal) (D : S1x2816x1024.Idx → EReal) (g3 b3 : S1x1024.Idx → EReal) (b : Fin 4)

theorem v0_apply (d : Fin 1024) (j : Fin 5632) : val_main_v0 (F := Ideal) W (ix2 d j) = W (ix3 (0 : Fin 1) d j) := by
  unfold val_main_v0
  pointwise

theorem v1_apply (n : Fin 4096) (j : Fin 5632) : val_main_v1 (F := Ideal) H W (ix3 b n j) = up H W b n j := by
  refine (val_main_v1_apply H W (ix3 b n j)).trans (Finset.sum_congr rfl fun d _ => ?_)
  refine congrArg₂ (· * ·) (congrArg H ?_) (Eq.trans (congrArg (val_main_v0 (F := Ideal) W) ?_) (v0_apply W d j))
  · funext a; match a with | ⟨0, _⟩ => rfl | ⟨1, _⟩ => rfl | ⟨2, _⟩ => rfl
  · funext a; match a with | ⟨0, _⟩ => rfl | ⟨1, _⟩ => rfl

theorem v2_apply (n : Fin 4096) (j : Fin 2816) : val_main_v2 (F := Ideal) H W (ix3 b n j) = up H W b n ⟨j.val, by omega⟩ := by
  have h := v1_apply H W b
  revert h
  unfold val_main_v2
  generalize val_main_v1 (F := Ideal) H W = y
  intro h
  pointwise
  exact h _ _

theorem v3_apply (n : Fin 4096) (j : Fin 2816) : val_main_v3 (F := Ideal) H W (ix3 b n j) = up H W b n ⟨2816 + j.val, by omega⟩ := by
  have h := v1_apply H W b
  revert h
  unfold val_main_v3
  generalize val_main_v1 (F := Ideal) H W = y
  intro h
  pointwise
  exact h _ _

theorem v4_apply (n : Fin 4098) (j : Fin 2816) : val_main_v4 (F := Ideal) H P W (ix3 b n j) = gate H P W b n j := by
  have h := v3_apply H W b
  revert h
  unfold val_main_v4
  generalize val_main_v3 (F := Ideal) H W = y
  intro h
  pointwise
  simp only [h]
  rfl

theorem v76_apply (i : Fin 2) (j : Fin 2816) : val_main_v76 (F := Ideal) H P W (ix3 b i j) = gate H P W b ⟨4096 + i.val, by omega⟩ j := by
  have h := v4_apply H P W b
  revert h
  unfold val_main_v76
  generalize val_main_v4 (F := Ideal) H P W = y
  intro h
  pointwise
  exact h _ _

theorem v30_apply (n : Fin 4096) (j : Fin 2816) : val_main_v30 (F := Ideal) H P W C B (ix3 b n j) = conv H P W C B b n j := by
  have h := v4_apply H P W b
  revert h
  unfold val_main_v30 val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12 val_main_cst
    val_main_v11 val_main_v10 val_main_v9 val_main_v8 val_main_v7 val_main_v6 val_main_v5
  generalize val_main_v4 (F := Ideal) H P W = y
  intro h
  pointwise
  have e1 : (⟨1 + n.val, by omega⟩ : Fin 4098) = ⟨n.val + 1, by omega⟩ := Fin.ext (Nat.add_comm _ _)
  have e2 : (⟨2 + n.val, by omega⟩ : Fin 4098) = ⟨n.val + 2, by omega⟩ := Fin.ext (Nat.add_comm _ _)
  simp only [h, e1, e2]
  rw [← add_assoc (G := EReal), ← add_assoc (G := EReal)]
  rfl

theorem v44_apply (n : Fin 4096) (j : Fin 2816) : val_main_v44 (F := Ideal) H P W C B (ix3 b n j)
    = up H W b n ⟨j.val, by omega⟩ * gelu (conv H P W C B b n j) := by
  have h := v30_apply H P W C B b n j
  have h' := v2_apply H W b n j
  revert h h'
  unfold val_main_v44 val_main_v43 val_main_v42 val_main_v41 val_main_cst_3 val_main_v40 val_main_v39 val_main_cst_2 val_main_v38 val_main_v37
    val_main_v36 val_main_cst_1 val_main_v35 val_main_v34 val_main_v33 val_main_cst_0 val_main_v32 val_main_v31
  generalize val_main_v30 (F := Ideal) H P W C B = y
  generalize val_main_v2 (F := Ideal) H W = z
  intro h h'
  pointwise
  rw [h, h', mul_comm (conv H P W C B b n j * conv H P W C B b n j) (conv H P W C B b n j)]
  rfl

theorem v45_apply (j : Fin 2816) (o : Fin 1024) : val_main_v45 (F := Ideal) D (ix2 j o) = D (ix3 (0 : Fin 1) j o) := by
  unfold val_main_v45
  pointwise

theorem v46_apply (n : Fin 4096) (o : Fin 1024) : val_main_v46 (F := Ideal) H P W C B D (ix3 b n o) = down H P W C B D b n o := by
  refine (val_main_v46_apply H P W C B D (ix3 b n o)).trans (Finset.sum_congr rfl fun j _ => ?_)
  refine congrArg₂ (· * ·) (Eq.trans (congrArg (val_main_v44 (F := Ideal) H P W C B) ?_) (v44_apply H P W C B b n j))
    (Eq.trans (congrArg (val_main_v45 (F := Ideal) D) ?_) (v45_apply D j o))
  · funext a; match a with | ⟨0, _⟩ => rfl | ⟨1, _⟩ => rfl | ⟨2, _⟩ => rfl
  · funext a; match a with | ⟨0, _⟩ => rfl | ⟨1, _⟩ => rfl

theorem v49_apply (n : Fin 4096) (o : Fin 1024) : val_main_v49 (F := Ideal) H P W C B D (ix3 b n o) = resid H P W C B D b n o := by
  have h := v46_apply H P W C B D b n o
  revert h
  unfold val_main_v49 val_main_v48 val_main_v47 val_main_cst_4
  generalize val_main_v46 (F := Ideal) H P W C B D = y
  intro h
  pointwise
  rw [h]
  rfl

theorem v53_apply (n : Fin 4096) : val_main_v53 (F := Ideal) H P W C B D (ix3 b n (0 : Fin 1)) = mean (resid H P W C B D b n) := by
  have h := v49_apply H P W C B D b n
  revert h
  unfold val_main_v53 val_main_v52 val_main_cst_6 val_main_v51 val_main_v50 val_main_cst_5
  generalize val_main_v49 (F := Ideal) H P W C B D = y
  intro h
  pointwise
  simp only [h]
  rfl

theorem v60_apply (n : Fin 4096) : val_main_v60 (F := Ideal) H P W C B D (ix3 b n (0 : Fin 1))
    = mean (fun q => (resid H P W C B D b n q - mean (resid H P W C B D b n)) * (resid H P W C B D b n q - mean (resid H P W C B D b n))) := by
  have h := v49_apply H P W C B D b n
  have h' := v53_apply H P W C B D b n
  revert h h'
  unfold val_main_v60 val_main_v59 val_main_cst_8 val_main_v58 val_main_v57 val_main_cst_7 val_main_v56 val_main_v55 val_main_v54
  generalize val_main_v49 (F := Ideal) H P W C B D = y
  generalize val_main_v53 (F := Ideal) H P W C B D = z
  intro h h'
  pointwise
  simp only [h, h']
  rfl

theorem v75_apply (n : Fin 4096) (o : Fin 1024) : val_main_v75 (F := Ideal) H P W C B D g3 b3 (ix3 b n o) = result H P W C B D g3 b3 b n o := by
  have h := v49_apply H P W C B D b n o
  have h' := v53_apply H P W C B D b n
  have h'' := v60_apply H P W C B D b n
  revert h h' h''
  unfold val_main_v75 val_main_v74 val_main_v73 val_main_v72 val_main_v71 val_main_v70 val_main_v69 val_main_v68 val_main_v67 val_main_v66
    val_main_v65 val_main_v64 val_main_v63 val_main_cst_9 val_main_v62 val_main_v61
  generalize val_main_v49 (F := Ideal) H P W C B D = y
  generalize val_main_v53 (F := Ideal) H P W C B D = z
  generalize val_main_v60 (F := Ideal) H P W C B D = w
  intro h h' h''
  pointwise
  simp only [h, h', h'']
  rfl

end Cert.Reference3Ideal.Ffn

end
-- ==== Proof.FfnArray.lean ====
/- The feed-forward kernel's result arrays: each is the reference's. -/
module

public import proofs.«01_k».proof.Proof.FfnLink
public import proofs.«01_k».proof.Proof.FfnRef

@[expose] public section

noncomputable section

namespace Cert.Kernel3Ideal.Ffn

open Idealize.ShloMosaic Idealize.ShloMosaic.TcCoe Cert.Kernel3Ideal Cert.Kernel3Ideal.Gen Cert.Kernel3Ideal.Value
open Cert.Reference3Ideal.Ffn Cert.Reference3Ideal.Read

variable (m : (ℓ : Loc nD τ sig) → Buf (Elt Ideal) ℓ) (c : Dev nD)

/-- A block of 512 rows, and the array it is a block of. -/
theorem rows_at (t : Fin cfg0.N) (f : S1x512x1024.Idx → EReal) (G : S4x4096x1024.Idx → EReal)
    (key : ∀ (r : Fin 512) (o : Fin 1024), f (ix3 (0 : Fin 1) r o) = G (ix3 (batch t) (rowOf t r) o))
    (y : S1x512x1024.Idx) (i : S4x4096x1024.Idx)
    (h0 : (i 0).val = t.val / 8) (h1 : (i 1).val = 512 * (t.val % 8) + (y 1).val) (h2 : (i 2).val = (y 2).val) : f y = G i := by
  have ey : y = ix3 (0 : Fin 1) (y 1) (y 2) := by
    refine (eq_ix3 y).trans (congrArg (fun a => ix3 a (y 1) (y 2)) (Subsingleton.elim (α := Fin 1) _ _))
  have ei : i = ix3 (batch t) (rowOf t (y 1)) (y 2) := by
    funext a
    apply Fin.ext
    match a with
    | ⟨0, _⟩ => exact h0
    | ⟨1, _⟩ => exact h1
    | ⟨2, _⟩ => exact h2
  rw [ey, ei]
  exact key (y 1) (y 2)

/-- The two rows of a batch, and the array they are the rows of. -/
theorem tail_at (t : Fin cfg0.N) (f : S1x2x2816.Idx → EReal) (G : S4x2x2816.Idx → EReal)
    (key : ∀ (r : Fin 2) (j : Fin 2816), f (ix3 (0 : Fin 1) r j) = G (ix3 (batch t) r j))
    (y : S1x2x2816.Idx) (i : S4x2x2816.Idx)
    (h0 : (i 0).val = t.val / 8) (h1 : (i 1).val = (y 1).val) (h2 : (i 2).val = (y 2).val) : f y = G i := by
  have ey : y = ix3 (0 : Fin 1) (y 1) (y 2) := by
    refine (eq_ix3 y).trans (congrArg (fun a => ix3 a (y 1) (y 2)) (Subsingleton.elim (α := Fin 1) _ _))
  have ei : i = ix3 (batch t) (y 1) (y 2) := by
    funext a
    apply Fin.ext
    match a with
    | ⟨0, _⟩ => exact h0
    | ⟨1, _⟩ => exact h1
    | ⟨2, _⟩ => exact h2
  rw [ey, ei]
  exact key (y 1) (y 2)

theorem index_8 : ∀ t : Fin cfg0.N, win0_8.index t = ![t.val / 8, t.val % 8, 0] := (by decide +kernel : ∀ t : Fin grid0.N, _)

theorem final8 : (dats m 0 c).arrAt 8 cfg0.N
    = val_main_v75 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  blk_simp
  rw [after0_8]
  refine rows_at t _ _ (fun r o => (y_apply m c t r o).trans (v75_apply _ _ _ _ _ _ _ _ _ _ _).symm) y _ ?_ ?_ ?_
    <;> blk_simp [index_8] <;> idx_bounds y <;> omega

theorem index_9 : ∀ t : Fin cfg0.N, win0_9.index t = ![t.val / 8, 0, 0] := (by decide +kernel : ∀ t : Fin grid0.N, _)

/-- The second result is written back at a batch's last block. -/
theorem flush_9 : ∀ t : Fin cfg0.N, win0_9.flush t = true → t.val % 8 = 7 := (by decide +kernel : ∀ t : Fin grid0.N, _)

theorem final9 : (dats m 0 c).arrAt 9 cfg0.N
    = val_main_v76 (F := Ideal) (m ((c : Thread nD τ).loc main_arg0)) (m ((c : Thread nD τ).loc main_arg1)) (m ((c : Thread nD τ).loc main_arg2)) := by
  refine (dats m 0 c).arrAt_eq_of_covers 9 _ (by decide +kernel) fun t hf y => ?_
  have h7 : t.val % 8 = 7 := flush_9 t hf
  blk_simp
  rw [after0_9]
  refine tail_at t _ _ (fun i j => ?_) y _ ?_ ?_ ?_
  · refine (tail_apply m c t (by omega) i j).trans (Eq.trans ?_ (v76_apply _ _ _ _ i j).symm)
    refine congrArg (fun n => Cert.Ffn.gate _ _ _ (batch t) n j) (Fin.ext ?_)
    show 512 * (t.val % 8) + (512 + i.val) = 4096 + i.val
    omega
  all_goals (blk_simp [index_9] <;> idx_bounds y <;> omega)

end Cert.Kernel3Ideal.Ffn

end
-- ==== Proof.MemRef.lean ====
/- The reference of the memory's keys and values, read at an index: a row of the memory times a column of one of the two weights. -/
module

public import proofs.«01_k».proof.Proof.Gen.Reference4Ideal.Read
public import Idealize.ShloMosaic.Lib.Pointwise
public import Idealize.ShloMosaic.Lib.StableHlo

@[expose] public section

noncomputable section

namespace Cert.Reference4Ideal.Mem

open Idealize.ShloMosaic Cert.Reference4Ideal Cert.Reference4Ideal.Read

variable (X : S4x256x1024.Idx → EReal) (A B : S1x1024x512.Idx → EReal)

/-- Column `j` of the keys' weights beside the values'. -/
def weight (d : Fin 1024) (j : Fin 1024) : EReal :=
  if h : j.val < 512 then A (ix3 (0 : Fin 1) d ⟨j.val, h⟩) else B (ix3 (0 : Fin 1) d ⟨j.val - 512, by omega⟩)

/-- Row `n` of the memory, over all batches, times column `j`. -/
def rowDot (n j : Fin 1024) : EReal :=
  ∑ d : Fin 1024, X (ix3 (⟨n.val / 256, by omega⟩ : Fin 4) (⟨n.val % 256, by omega⟩ : Fin 256) d) * weight A B d j

theorem v0_apply (d : Fin 1024) (j : Fin 512) : val_main_v0 (F := Ideal) A (ix2 d j) = A (ix3 (0 : Fin 1) d j) := by
  unfold val_main_v0
  pointwise

theorem v2_apply (d : Fin 1024) (j : Fin 512) : val_main_v2 (F := Ideal) B (ix2 d j) = B (ix3 (0 : Fin 1) d j) := by
  unfold val_main_v2
  pointwise

theorem v1_apply (b : Fin 4) (n : Fin 256) (j : Fin 512) :
    val_main_v1 (F := Ideal) X A (ix3 b n j) = ∑ d : Fin 1024, X (ix3 b n d) * A (ix3 (0 : Fin 1) d j) := by
  refine (val_main_v1_apply X A (ix3 b n j)).trans (Finset.sum_congr rfl fun d _ => ?_)
  refine congrArg₂ (· * ·) (congrArg X ?_) (Eq.trans (congrArg (val_main_v0 (F := Ideal) A) ?_) (v0_apply A d j))
  · funext a; match a with | ⟨0, _⟩ => rfl | ⟨1, _⟩ => rfl | ⟨2, _⟩ => rfl
  · funext a; match a with | ⟨0, _⟩ => rfl | ⟨1, _⟩ => rfl

theorem v3_apply (b : Fin 4) (n : Fin 256) (j : Fin 512) :
    val_main_v3 (F := Ideal) X B (ix3 b n j) = ∑ d : Fin 1024, X (ix3 b n d) * B (ix3 (0 : Fin 1) d j) := by
  refine (val_main_v3_apply X B (ix3 b n j)).trans (Finset.sum_congr rfl fun d _ => ?_)
  refine congrArg₂ (· * ·) (congrArg X ?_) (Eq.trans (congrArg (val_main_v2 (F := Ideal) B) ?_) (v2_apply B d j))
  · funext a; match a with | ⟨0, _⟩ => rfl | ⟨1, _⟩ => rfl | ⟨2, _⟩ => rfl
  · funext a; match a with | ⟨0, _⟩ => rfl | ⟨1, _⟩ => rfl

theorem v4_apply (b : Fin 4) (n : Fin 256) (j : Fin 1024) :
    val_main_v4 (F := Ideal) X A B (ix3 b n j) = ∑ d : Fin 1024, X (ix3 b n d) * weight A B d j := by
  have hA := v1_apply X A b
  have hB := v3_apply X B b
  revert hA hB
  unfold val_main_v4
  generalize val_main_v1 (F := Ideal) X A = y
  generalize val_main_v3 (F := Ideal) X B = z
  intro hA hB
  pointwise
  unfold weight
  split_ifs
  all_goals first
    | exact hA _ _
    | exact hB _ _
    | contradiction

theorem v5_apply (n j : Fin 1024) : val_main_v5 (F := Ideal) X A B (ix2 n j) = rowDot X A B n j := by
  refine (val_main_v5_apply X A B (ix2 n j)).trans (Eq.trans (congrArg (val_main_v4 (F := Ideal) X A B) ?_)
    (v4_apply X A B ⟨n.val / 256, by omega⟩ ⟨n.val % 256, by omega⟩ j))
  funext a
  apply Fin.ext
  match a with
  | ⟨0, _⟩ => show (n.val * 1024 + j.val) / 262144 = n.val / 256; omega
  | ⟨1, _⟩ => show (n.val * 1024 + j.val) / 1024 % 256 = n.val % 256; omega
  | ⟨2, _⟩ => show (n.val * 1024 + j.val) % 1024 = j.val; omega

end Cert.Reference4Ideal.Mem

end
-- ==== Proof.MemArray.lean ====
/- The array of the memory's keys and values that the kernel returns is the reference's. -/
module

public import proofs.«01_k».proof.Proof.Gen.Kernel4Ideal.Value
public import proofs.«01_k».proof.Proof.MemRef
public import Idealize.ShloMosaic.Lib.Pipeline.ValueKit

@[expose] public section

noncomputable section

namespace Cert.Kernel4Ideal.Mem

open Idealize.ShloMosaic Idealize.ShloMosaic.TcCoe Cert.Kernel4Ideal Cert.Kernel4Ideal.Gen Cert.Kernel4Ideal.Value
open Cert.Reference4Ideal.Mem Cert.Reference4Ideal.Read

variable (m : (ℓ : Loc nD τ sig) → Buf (Elt Ideal) ℓ) (c : Dev nD)

/-- A block of rows times the weights. -/
theorem out_apply (x0 : Vec Ideal S512x1024 .f32) (x1 : Vec Ideal S1024x1024 .bf16) (r : Fin 512) (j : Fin 1024) :
    out0_2 x0 x1 (ix2 r j) = ∑ d : Fin 1024, (x0 (ix2 r d) : EReal) * x1 (ix2 d j) := by
  frame_out
  pointwise [k0_pay1]

/-- The memory's rows, the batches one after the other. -/
theorem memory_apply (n d : Fin 1024) :
    (V m c main_v0 : S1024x1024.Idx → EReal) (ix2 n d)
      = (m ((c : Thread nD τ).loc main_arg0) : S4x256x1024.Idx → EReal) (ix3 (⟨n.val / 256, by omega⟩ : Fin 4) (⟨n.val % 256, by omega⟩ : Fin 256) d) := by
  unfold V
  after_results_simp
  refine (shapeCast_apply (s := S4x256x1024) (m ((c : Thread nD τ).loc main_arg0)) shapeCasts_S4x256x1024_S1024x1024 (ix2 n d)
    (ix3 (⟨n.val / 256, by omega⟩ : Fin 4) (⟨n.val % 256, by omega⟩ : Fin 256) d) ?_)
  rewrite [Shape.rowMajor_val_three, Shape.rowMajor_val_two]
  show (n.val / 256 * 256 + n.val % 256) * 1024 + d.val = n.val * 1024 + d.val
  omega

theorem weight_apply (d j : Fin 1024) :
    (V m c main_v4 : S1024x1024.Idx → EReal) (ix2 d j)
      = weight (m ((c : Thread nD τ).loc main_arg1)) (m ((c : Thread nD τ).loc main_arg2)) d j := by
  unfold V weight
  after_results_simp
  pointwise
  split_ifs <;> after_results_simp <;> pointwise

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

theorem point_lt (t : Fin cfg0.N) : t.val < 2 := by
  have hN : cfg0.N = 2 := N_0
  have := t.isLt
  omega

/-- The row of the array that row `r` of a point's block is. -/
def rowOf (t : Fin cfg0.N) (r : Fin 512) : Fin 1024 := ⟨512 * t.val + r.val, by have := point_lt t; omega⟩

theorem block_memory (t : Fin cfg0.N) (r : Fin 512) (d : Fin 1024) :
    (iblk m c 0 t : Vec Ideal S512x1024 .f32) (ix2 r d) = V m c main_v0 (ix2 (rowOf t r) d) := by
  blk_simp [iblk]
  refine congrArg (V m c main_v0) ?_
  blk_ext [index_0, rowOf]

theorem block_weight (t : Fin cfg0.N) : (iblk m c 1 t : Vec Ideal S1024x1024 .bf16) = V m c main_v4 := by
  funext y
  blk_simp [iblk]
  refine congrArg (V m c main_v4) ?_
  blk_ext [index_1]

theorem point_apply (t : Fin cfg0.N) (r : Fin 512) (j : Fin 1024) :
    out0_2 (iblk m c 0 t) (iblk m c 1 t) (ix2 r j)
      = rowDot (m ((c : Thread nD τ).loc main_arg0)) (m ((c : Thread nD τ).loc main_arg1)) (m ((c : Thread nD τ).loc main_arg2)) (rowOf t r) j := by
  refine (out_apply _ _ r j).trans (Finset.sum_congr rfl fun d _ => ?_)
  rw [block_memory, block_weight, memory_apply, weight_apply]

/-- A block of 512 rows, and the array it is a block of. -/
theorem rows_at (t : Fin cfg0.N) (f : S512x1024.Idx → EReal) (G : S1024x1024.Idx → EReal)
    (key : ∀ (r : Fin 512) (j : Fin 1024), f (ix2 r j) = G (ix2 (rowOf t r) j)) (y : S512x1024.Idx) (i : S1024x1024.Idx)
    (h0 : (i 0).val = 512 * t.val + (y 0).val) (h1 : (i 1).val = (y 1).val) : f y = G i := by
  have ei : i = ix2 (rowOf t (y 0)) (y 1) := by
    funext a
    apply Fin.ext
    match a with
    | ⟨0, _⟩ => exact h0
    | ⟨1, _⟩ => exact h1
  rw [eq_ix2 y, ei]
  exact key (y 0) (y 1)

theorem final2 : (dats m 0 c).arrAt 2 cfg0.N
    = val_main_v5 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  refine rows_at t _ _ (fun r j => (point_apply m c t r j).trans (v5_apply _ _ _ _ _).symm) y _ ?_ ?_
    <;> blk_simp [index_2] <;> idx_bounds y <;> omega

end Cert.Kernel4Ideal.Mem

end
-- ==== Proof.lean ====
/- The claims, assembled: the frames, the named mask, and the results of the local attention, of the projection, of the
feed-forward layer and of the memory's keys and values against the references'. -/
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.BandLink
public import proofs.«01_k».proof.Proof.ProjArray
public import proofs.«01_k».proof.Proof.FfnArray
public import proofs.«01_k».proof.Proof.MemArray
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Quiescent

@[expose] public section

noncomputable section

namespace Cert.Proof

open Idealize.ShloMosaic Idealize.SL.Sem

/-- The precondition's side conditions. -/
theorem pre_facts : Cert.Pre_finite_logits.Facts := ⟨by decide, by decide, by decide, by decide⟩

/-- The reference's run leaves its arguments as they were and every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The kernel's result array is the reference's. -/
theorem band_algebraic : Cert.algebraic_KernelIdeal_ReferenceIdeal_pre_finite_logits (hKernelIdeal := Cert.KernelIdeal.Gen.facts)
    (hReferenceIdeal := Cert.ReferenceIdeal.Gen.facts) (hPre_finite_logits := pre_facts) := by
  intro m ρ m' ρ' hpre hagree
  refine ⟨fun c => Cert.KernelIdeal.Band.result m c, ?_, ?_⟩
  · exact (θ_run _ _ _).mono (fun r h c => ⟨(h c).1.trans (Cert.KernelIdeal.Band.final_o m c), (h c).2⟩)
      (Cert.KernelIdeal.Value.run_blocks (F := Ideal) m ρ)
  · refine (θ_run _ _ _).mono (fun r h c => ⟨(h c).1.trans ?_, (h c).2⟩) (Cert.ReferenceIdeal.Value.run (F := Ideal) m' ρ')
    letI := pre_facts
    obtain ⟨hQ, hK, hT⟩ := Cert.Band.finite_of_pre _ _ _ _ (hpre c)
    rw [Cert.ReferenceIdeal.Read.val_main_v91_eq, (hagree c).1, (hagree c).2.1, (hagree c).2.2.1, (hagree c).2.2.2]
    funext y
    have ey : y = ix3 (y 0 : Fin 4) (y 1 : Fin 512) (y 2 : Fin 4096) := by
      funext a
      match a with
      | ⟨0, _⟩ => rfl
      | ⟨1, _⟩ => rfl
      | ⟨2, _⟩ => rfl
    rw [ey]
    exact Cert.Band.reference_eq _ _ _ _ hQ hK hT _ _ _

/-- The projection's reference runs, leaves its arguments as they were and every semaphore at zero. -/
theorem reference2_frame : Cert.quiescent_Reference2Ideal (hReference2Ideal := Cert.Reference2Ideal.Gen.facts) := fun m ρ _ =>
  (θ_run (Cert.Reference2Ideal.defs (F := Ideal)) _ _).mono
    (fun r h => ⟨fun c => (h c).2.2.2.2.2.2.2.2.2.2.2.2.2, Idealize.ShloMosaic.sem_eq_zero_of_no_sems (by decide) r.2⟩)
    (Cert.Reference2Ideal.Value.run (F := Ideal) m ρ)

set_option maxHeartbeats 2000000 in
/-- The projection's thirteen result arrays are the reference's. -/
theorem proj_algebraic : Cert.algebraic_Kernel2Ideal_Reference2Ideal (hKernel2Ideal := Cert.Kernel2Ideal.Gen.facts)
    (hReference2Ideal := Cert.Reference2Ideal.Gen.facts) := by
  intro m ρ m' ρ' _ hagree
  let x := fun c : Dev Cert.Kernel2Ideal.nD => m ((c.tc : Thread Cert.Kernel2Ideal.nD Cert.Kernel2Ideal.τ).loc Cert.Kernel2Ideal.main_arg0)
  let w := fun c : Dev Cert.Kernel2Ideal.nD => m ((c.tc : Thread Cert.Kernel2Ideal.nD Cert.Kernel2Ideal.τ).loc Cert.Kernel2Ideal.main_arg1)
  refine ⟨fun c => Cert.Reference2Ideal.Read.val_main_v11 (F := Ideal) (x c) (w c),
    fun c => Cert.Reference2Ideal.Read.val_main_v12 (F := Ideal) (x c) (w c),
    fun c => Cert.Reference2Ideal.Read.val_main_v13 (F := Ideal) (x c) (w c),
    fun c => Cert.Reference2Ideal.Read.val_main_v14 (F := Ideal) (x c) (w c),
    fun c => Cert.Reference2Ideal.Read.val_main_v6 (F := Ideal) (x c) (w c),
    fun c => Cert.Reference2Ideal.Read.val_main_v7 (F := Ideal) (x c) (w c),
    fun c => Cert.Reference2Ideal.Read.val_main_v9 (F := Ideal) (x c) (w c),
    fun c => Cert.Reference2Ideal.Read.val_main_v18 (F := Ideal) (x c) (w c),
    fun c => Cert.Reference2Ideal.Read.val_main_v20 (F := Ideal) (x c) (w c),
    fun c => Cert.Reference2Ideal.Read.val_main_v22 (F := Ideal) (x c) (w c),
    fun c => Cert.Reference2Ideal.Read.val_main_v26 (F := Ideal) (x c) (w c),
    fun c => Cert.Reference2Ideal.Read.val_main_v28 (F := Ideal) (x c) (w c),
    fun c => Cert.Reference2Ideal.Read.val_main_v29 (F := Ideal) (x c) (w c), ?_, ?_⟩
  · refine (θ_run _ _ _).mono (fun r h c => ?_) (Cert.Kernel2Ideal.Value.run_blocks (F := Ideal) m ρ)
    obtain ⟨h0, h1, h2, h3, h4, h5, h6, h7, h8, h9, h10, h11, h12, hargs⟩ := h c
    exact ⟨h0.trans (Cert.Kernel2Ideal.Proj.final3 m c), h1.trans (Cert.Kernel2Ideal.Proj.final4 m c), h2.trans (Cert.Kernel2Ideal.Proj.final5 m c), h3.trans (Cert.Kernel2Ideal.Proj.final6 m c), h4.trans (Cert.Kernel2Ideal.Proj.final7 m c), h5.trans (Cert.Kernel2Ideal.Proj.final8 m c), h6.trans (Cert.Kernel2Ideal.Proj.final9 m c), h7.trans (Cert.Kernel2Ideal.Proj.final10 m c), h8.trans (Cert.Kernel2Ideal.Proj.final11 m c), h9.trans (Cert.Kernel2Ideal.Proj.final12 m c), h10.trans (Cert.Kernel2Ideal.Proj.final13 m c), h11.trans (Cert.Kernel2Ideal.Proj.final14 m c), h12.trans (Cert.Kernel2Ideal.Proj.final15 m c), hargs⟩
  · refine (θ_run _ _ _).mono (fun r h c => ?_) (Cert.Reference2Ideal.Value.run (F := Ideal) m' ρ')
    obtain ⟨h0, h1, h2, h3, h4, h5, h6, h7, h8, h9, h10, h11, h12, hargs⟩ := h c
    obtain ⟨e0, e1⟩ := hagree c
    exact ⟨(h0.trans (Cert.Reference2Ideal.Read.val_main_v11_eq _ _)).trans (congrArg₂ (Cert.Reference2Ideal.Read.val_main_v11 (F := Ideal)) e0 e1),
      (h1.trans (Cert.Reference2Ideal.Read.val_main_v12_eq _ _)).trans (congrArg₂ (Cert.Reference2Ideal.Read.val_main_v12 (F := Ideal)) e0 e1),
      (h2.trans (Cert.Reference2Ideal.Read.val_main_v13_eq _ _)).trans (congrArg₂ (Cert.Reference2Ideal.Read.val_main_v13 (F := Ideal)) e0 e1),
      (h3.trans (Cert.Reference2Ideal.Read.val_main_v14_eq _ _)).trans (congrArg₂ (Cert.Reference2Ideal.Read.val_main_v14 (F := Ideal)) e0 e1),
      (h4.trans (Cert.Reference2Ideal.Read.val_main_v6_eq _ _)).trans (congrArg₂ (Cert.Reference2Ideal.Read.val_main_v6 (F := Ideal)) e0 e1),
      (h5.trans (Cert.Reference2Ideal.Read.val_main_v7_eq _ _)).trans (congrArg₂ (Cert.Reference2Ideal.Read.val_main_v7 (F := Ideal)) e0 e1),
      (h6.trans (Cert.Reference2Ideal.Read.val_main_v9_eq _ _)).trans (congrArg₂ (Cert.Reference2Ideal.Read.val_main_v9 (F := Ideal)) e0 e1),
      (h7.trans (Cert.Reference2Ideal.Read.val_main_v18_eq _ _)).trans (congrArg₂ (Cert.Reference2Ideal.Read.val_main_v18 (F := Ideal)) e0 e1),
      (h8.trans (Cert.Reference2Ideal.Read.val_main_v20_eq _ _)).trans (congrArg₂ (Cert.Reference2Ideal.Read.val_main_v20 (F := Ideal)) e0 e1),
      (h9.trans (Cert.Reference2Ideal.Read.val_main_v22_eq _ _)).trans (congrArg₂ (Cert.Reference2Ideal.Read.val_main_v22 (F := Ideal)) e0 e1),
      (h10.trans (Cert.Reference2Ideal.Read.val_main_v26_eq _ _)).trans (congrArg₂ (Cert.Reference2Ideal.Read.val_main_v26 (F := Ideal)) e0 e1),
      (h11.trans (Cert.Reference2Ideal.Read.val_main_v28_eq _ _)).trans (congrArg₂ (Cert.Reference2Ideal.Read.val_main_v28 (F := Ideal)) e0 e1),
      (h12.trans (Cert.Reference2Ideal.Read.val_main_v29_eq _ _)).trans (congrArg₂ (Cert.Reference2Ideal.Read.val_main_v29 (F := Ideal)) e0 e1), hargs⟩

/-- The feed-forward layer's reference runs, leaves its arguments as they were and every semaphore at zero. -/
theorem reference3_frame : Cert.quiescent_Reference3Ideal (hReference3Ideal := Cert.Reference3Ideal.Gen.facts) := fun m ρ _ =>
  (θ_run (Cert.Reference3Ideal.defs (F := Ideal)) _ _).mono
    (fun r h => ⟨fun c => (h c).2.2, Idealize.ShloMosaic.sem_eq_zero_of_no_sems (by decide) r.2⟩)
    (Cert.Reference3Ideal.Value.run (F := Ideal) m ρ)

/-- Equal arguments, eight of them, give equal results. -/
theorem congr_eight {A0 A1 A2 A3 A4 A5 A6 A7 R : Type _} (f : A0 → A1 → A2 → A3 → A4 → A5 → A6 → A7 → R) {a0 b0 : A0} {a1 b1 : A1} {a2 b2 : A2}
    {a3 b3 : A3} {a4 b4 : A4} {a5 b5 : A5} {a6 b6 : A6} {a7 b7 : A7} (h0 : a0 = b0) (h1 : a1 = b1) (h2 : a2 = b2) (h3 : a3 = b3)
    (h4 : a4 = b4) (h5 : a5 = b5) (h6 : a6 = b6) (h7 : a7 = b7) : f a0 a1 a2 a3 a4 a5 a6 a7 = f b0 b1 b2 b3 b4 b5 b6 b7 := by
  subst h0 h1 h2 h3 h4 h5 h6 h7
  rfl

/-- Equal arguments, three of them, give equal results. -/
theorem congr_three {A0 A1 A2 R : Type _} (f : A0 → A1 → A2 → R) {a0 b0 : A0} {a1 b1 : A1} {a2 b2 : A2}
    (h0 : a0 = b0) (h1 : a1 = b1) (h2 : a2 = b2) : f a0 a1 a2 = f b0 b1 b2 := by
  subst h0 h1 h2
  rfl

set_option maxHeartbeats 2000000 in
/-- The feed-forward layer's two result arrays are the reference's. -/
theorem ffn_algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Reference3Ideal.Read.val_main_v75 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2))
      (m ((c.tc : Thread Cert.Kernel3Ideal.nD Cert.Kernel3Ideal.τ).loc Cert.Kernel3Ideal.main_arg3))
      (m ((c.tc : Thread Cert.Kernel3Ideal.nD Cert.Kernel3Ideal.τ).loc Cert.Kernel3Ideal.main_arg4))
      (m ((c.tc : Thread Cert.Kernel3Ideal.nD Cert.Kernel3Ideal.τ).loc Cert.Kernel3Ideal.main_arg5))
      (m ((c.tc : Thread Cert.Kernel3Ideal.nD Cert.Kernel3Ideal.τ).loc Cert.Kernel3Ideal.main_arg6))
      (m ((c.tc : Thread Cert.Kernel3Ideal.nD Cert.Kernel3Ideal.τ).loc Cert.Kernel3Ideal.main_arg7)),
    fun c => Cert.Reference3Ideal.Read.val_main_v76 (F := Ideal)
      (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1))
      (m ((c.tc : Thread Cert.Kernel3Ideal.nD Cert.Kernel3Ideal.τ).loc Cert.Kernel3Ideal.main_arg2)), ?_, ?_⟩
  · refine (θ_run _ _ _).mono (fun r h c => ?_) (Cert.Kernel3Ideal.Value.run_blocks (F := Ideal) m ρ)
    obtain ⟨h0, h1, hargs⟩ := h c
    exact ⟨h0.trans (Cert.Kernel3Ideal.Ffn.final8 m c), h1.trans (Cert.Kernel3Ideal.Ffn.final9 m c), hargs⟩
  · refine (θ_run _ _ _).mono (fun r h c => ?_) (Cert.Reference3Ideal.Value.run (F := Ideal) m' ρ')
    obtain ⟨h0, h1, hargs⟩ := h c
    obtain ⟨e0, e1, e2, e3, e4, e5, e6, e7⟩ := hagree c
    exact ⟨(h0.trans (Cert.Reference3Ideal.Read.val_main_v75_eq _ _)).trans
        (congr_eight (Cert.Reference3Ideal.Read.val_main_v75 (F := Ideal)) e0 e1 e2 e3 e4 e5 e6 e7),
      (h1.trans (Cert.Reference3Ideal.Read.val_main_v76_eq _ _ _)).trans
        (congr_three (Cert.Reference3Ideal.Read.val_main_v76 (F := Ideal)) e0 e1 e2), hargs⟩

/-- The reference of the memory's keys and values runs, leaves its arguments as they were and every semaphore at zero. -/
theorem reference4_frame : Cert.quiescent_Reference4Ideal (hReference4Ideal := Cert.Reference4Ideal.Gen.facts) := fun m ρ _ =>
  (θ_run (Cert.Reference4Ideal.defs (F := Ideal)) _ _).mono
    (fun r h => ⟨fun c => (h c).2, Idealize.ShloMosaic.sem_eq_zero_of_no_sems (by decide) r.2⟩)
    (Cert.Reference4Ideal.Value.run (F := Ideal) m ρ)

/-- The array of the memory's keys and values is the reference's. -/
theorem mem_algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Reference4Ideal.Read.val_main_v5 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2)), ?_, ?_⟩
  · refine (θ_run _ _ _).mono (fun r h c => ?_) (Cert.Kernel4Ideal.Value.run_blocks (F := Ideal) m ρ)
    obtain ⟨h0, hargs⟩ := h c
    exact ⟨h0.trans (Cert.Kernel4Ideal.Mem.final2 m c), hargs⟩
  · refine (θ_run _ _ _).mono (fun r h c => ?_) (Cert.Reference4Ideal.Value.run (F := Ideal) m' ρ')
    obtain ⟨h0, hargs⟩ := h c
    obtain ⟨e0, e1, e2⟩ := hagree c
    exact ⟨(h0.trans (Cert.Reference4Ideal.Read.val_main_v5_eq _ _ _)).trans
        (congr_three (Cert.Reference4Ideal.Read.val_main_v5 (F := Ideal)) e0 e1 e2), hargs⟩

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, pre_facts,
  fun m ρ _ => Cert.Kernel.Gen.frame m ρ,
  fun m ρ _ => Cert.KernelIdeal.Gen.frame m ρ,
  fun m ρ _ => Cert.KernelIdeal.Gen.frame m ρ,
  fun m ρ _ => reference_frame m ρ,
  fun m ρ _ => reference_frame m ρ,
  fun m ρ _ => Cert.Kernel2.Gen.frame m ρ,
  fun m ρ _ => Cert.Kernel2Ideal.Gen.frame m ρ,
  reference2_frame,
  fun m ρ _ => Cert.Kernel3.Gen.frame m ρ,
  fun m ρ _ => Cert.Kernel3Ideal.Gen.frame m ρ,
  reference3_frame,
  fun m ρ _ => Cert.Kernel4.Gen.frame m ρ,
  fun m ρ _ => Cert.Kernel4Ideal.Gen.frame m ρ,
  reference4_frame,
  IdealRules.named_const.statement Cert.KernelIdeal.κ "mask" .f32 0xF149F2CA#32 _ rfl,
  band_algebraic,
  trivial,
  proj_algebraic,
  trivial,
  ffn_algebraic,
  trivial,
  mem_algebraic⟩

end Cert.Proof

end
